-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_and_binary [hPre_finite_and_binary : Cert.Pre_finite_and_binary.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_binary.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).1 = (fun _ => 1#1)
    ∧ (Cert.Pre_finite_and_binary.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.1 = (fun _ => 1#1)
    ∧ (Cert.Pre_finite_and_binary.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.1 = (fun _ => 1#1)
    ∧ (Cert.Pre_finite_and_binary.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.1 = (fun _ => 1#1)
    ∧ (Cert.Pre_finite_and_binary.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_binary [hPre_finite_and_binary : Cert.Pre_finite_and_binary.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_binary.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).1 = (fun _ => 1#1)
    ∧ (Cert.Pre_finite_and_binary.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.1 = (fun _ => 1#1)
    ∧ (Cert.Pre_finite_and_binary.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.1 = (fun _ => 1#1)
    ∧ (Cert.Pre_finite_and_binary.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.1 = (fun _ => 1#1)
    ∧ (Cert.Pre_finite_and_binary.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_KernelIdeal_pre_finite_and_binary [hKernelIdeal : Cert.KernelIdeal.Facts] [hPre_finite_and_binary : Cert.Pre_finite_and_binary.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_binary m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def quiescent_ReferenceIdeal_pre_finite_and_binary [hReferenceIdeal : Cert.ReferenceIdeal.Facts] [hPre_finite_and_binary : Cert.Pre_finite_and_binary.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_binary m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def preserves_Kernel_KernelIdeal : Prop :=
  True

def algebraic_KernelIdeal_ReferenceIdeal_pre_finite_and_binary [hKernelIdeal : Cert.KernelIdeal.Facts] [hReferenceIdeal : Cert.ReferenceIdeal.Facts] [hPre_finite_and_binary : Cert.Pre_finite_and_binary.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_binary m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v110)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v110) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v377) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_and_binary : Cert.Pre_finite_and_binary.Facts),
    quiescent_Kernel (hKernel := hKernel)
    ∧ quiescent_KernelIdeal (hKernelIdeal := hKernelIdeal)
    ∧ quiescent_KernelIdeal_pre_finite_and_binary (hKernelIdeal := hKernelIdeal) (hPre_finite_and_binary := hPre_finite_and_binary)
    ∧ quiescent_ReferenceIdeal (hReferenceIdeal := hReferenceIdeal)
    ∧ quiescent_ReferenceIdeal_pre_finite_and_binary (hReferenceIdeal := hReferenceIdeal) (hPre_finite_and_binary := hPre_finite_and_binary)
    ∧ preserves_Kernel_KernelIdeal
    ∧ algebraic_KernelIdeal_ReferenceIdeal_pre_finite_and_binary (hKernelIdeal := hKernelIdeal) (hReferenceIdeal := hReferenceIdeal) (hPre_finite_and_binary := hPre_finite_and_binary)
-- ==== Pre_finite_and_binary.lean ====
abbrev S128x32 : Shape := ⟨2, ![128, 32]⟩
abbrev S10000x8 : Shape := ⟨2, ![10000, 8]⟩
abbrev S512x4 : Shape := ⟨2, ![512, 4]⟩
abbrev S4096x4 : Shape := ⟨2, ![4096, 4]⟩
abbrev S10000x256 : Shape := ⟨2, ![10000, 256]⟩
abbrev S512x256 : Shape := ⟨2, ![512, 256]⟩
abbrev S4096x256 : Shape := ⟨2, ![4096, 256]⟩
abbrev S2x256 : Shape := ⟨2, ![2, 256]⟩
abbrev S768x256 : Shape := ⟨2, ![768, 256]⟩
abbrev S256x256 : Shape := ⟨2, ![256, 256]⟩
abbrev S512 : Shape := ⟨1, ![512]⟩
abbrev S_ : Shape := ⟨0, ![]⟩
abbrev S256 : Shape := ⟨1, ![256]⟩

class Facts : Prop where
  bcast_S_S128x32 : S_.BroadcastsInDim S128x32 (![] : Fin 0 → Fin S128x32.rank)
  bcast_S_S10000x256 : S_.BroadcastsInDim S10000x256 (![] : Fin 0 → Fin S10000x256.rank)
  bcast_S_S2x256 : S_.BroadcastsInDim S2x256 (![] : Fin 0 → Fin S2x256.rank)
  slices_S768x256_S256x256_512_0 : S768x256.Slices ![512, 0] S256x256
  bcast_S_S256x256 : S_.BroadcastsInDim S256x256 (![] : Fin 0 → Fin S256x256.rank)
  slices_S512_S256_0 : S512.Slices ![0] S256
  bcast_S_S256 : S_.BroadcastsInDim S256 (![] : Fin 0 → Fin S256.rank)

variable [Facts]

def fn_part1 {F : FTy → Type} [FloatOps F] (main_v4 : IVec S128x32 1) (main_v7 : IVec S10000x256 1) (main_v10 : IVec S2x256 1) (main_v14 : IVec S256x256 1) (main_v16 : FVec F S256 .f32) (main_v17 : FVec F S256 .f32) : IVec S128x32 1 × IVec S10000x256 1 × IVec S2x256 1 × IVec S256x256 1 × IVec S256 1 :=
  let main_v18 : IVec S256 1 := cmpf .olt main_v16 main_v17
  (main_v4, main_v7, main_v10, main_v14, main_v18)

def fn {F : FTy → Type} [FloatOps F] (main_arg0 : IVec S128x32 32) (main_arg1 : IVec S128x32 32) (main_arg2 : IVec S128x32 32) (main_arg3 : IVec S128x32 32) (main_arg4 : IVec S10000x8 32) (main_arg5 : IVec S512x4 32) (main_arg6 : IVec S10000x8 32) (main_arg7 : IVec S4096x4 32) (main_arg8 : FVec F S10000x256 .f32) (main_arg9 : FVec F S512x256 .f32) (main_arg10 : FVec F S4096x256 .f32) (main_arg11 : FVec F S10000x256 .f32) (main_arg12 : FVec F S2x256 .f32) (main_arg13 : FVec F S768x256 .f32) (main_arg14 : FVec F S256x256 .f32) (main_arg15 : FVec F S512 .f32) : IVec S128x32 1 × IVec S10000x256 1 × IVec S2x256 1 × IVec S256x256 1 × IVec S256 1 :=
  let main_c : IVec S_ 32 := constantI S_ 32 0#32
  let main_v0 : IVec S128x32 32 := broadcastInDim S128x32 ![] bcast_S_S128x32 main_c
  let main_v1 : IVec S128x32 1 := cmpi .eq main_arg1 main_v0
  let main_c_0 : IVec S_ 32 := constantI S_ 32 1#32
  let main_v2 : IVec S128x32 32 := broadcastInDim S128x32 ![] bcast_S_S128x32 main_c_0
  let main_v3 : IVec S128x32 1 := cmpi .eq main_arg1 main_v2
  let main_v4 : IVec S128x32 1 := ori main_v1 main_v3
  let main_v5 : FVec F S10000x256 .f32 := Host.absf main_arg8
  let main_cst : FVec F S_ .f32 := constant S_ .f32 0x7F800000#32
  let main_v6 : FVec F S10000x256 .f32 := broadcastInDim S10000x256 ![] bcast_S_S10000x256 main_cst
  let main_v7 : IVec S10000x256 1 := cmpf .olt main_v5 main_v6
  let main_v8 : FVec F S2x256 .f32 := Host.absf main_arg12
  let main_cst_1 : FVec F S_ .f32 := constant S_ .f32 0x7F800000#32
  let main_v9 : FVec F S2x256 .f32 := broadcastInDim S2x256 ![] bcast_S_S2x256 main_cst_1
  let main_v10 : IVec S2x256 1 := cmpf .olt main_v8 main_v9
  let main_v11 : FVec F S256x256 .f32 := (extractStridedSlice S256x256 ![512, 0] · slices_S768x256_S256x256_512_0) main_arg13
  let main_v12 : FVec F S256x256 .f32 := Host.absf main_v11
  let main_cst_2 : FVec F S_ .f32 := constant S_ .f32 0x7F800000#32
  let main_v13 : FVec F S256x256 .f32 := broadcastInDim S256x256 ![] bcast_S_S256x256 main_cst_2
  let main_v14 : IVec S256x256 1 := cmpf .olt main_v12 main_v13
  let main_v15 : FVec F S256 .f32 := (extractStridedSlice S256 ![0] · slices_S512_S256_0) main_arg15
  let main_v16 : FVec F S256 .f32 := Host.absf main_v15
  let main_cst_3 : FVec F S_ .f32 := constant S_ .f32 0x7F800000#32
  let main_v17 : FVec F S256 .f32 := broadcastInDim S256 ![] bcast_S_S256 main_cst_3
  fn_part1 (F := F) main_v4 main_v7 main_v10 main_v14 main_v16 main_v17
-- ==== Kernel.lean ====
abbrev S128x32 : Shape := ⟨2, ![128, 32]⟩
abbrev S10000x8 : Shape := ⟨2, ![10000, 8]⟩
abbrev S512x4 : Shape := ⟨2, ![512, 4]⟩
abbrev S4096x4 : Shape := ⟨2, ![4096, 4]⟩
abbrev S10000x256 : Shape := ⟨2, ![10000, 256]⟩
abbrev S512x256 : Shape := ⟨2, ![512, 256]⟩
abbrev S4096x256 : Shape := ⟨2, ![4096, 256]⟩
abbrev S2x256 : Shape := ⟨2, ![2, 256]⟩
abbrev S768x256 : Shape := ⟨2, ![768, 256]⟩
abbrev S256x256 : Shape := ⟨2, ![256, 256]⟩
abbrev S512 : Shape := ⟨1, ![512]⟩
abbrev S_ : Shape := ⟨0, ![]⟩
abbrev S512x4x1 : Shape := ⟨3, ![512, 4, 1]⟩
abbrev S512x4x256 : Shape := ⟨3, ![512, 4, 256]⟩
abbrev S4096x4x1 : Shape := ⟨3, ![4096, 4, 1]⟩
abbrev S4096x4x256 : Shape := ⟨3, ![4096, 4, 256]⟩
abbrev S32x128 : Shape := ⟨2, ![32, 128]⟩
abbrev S4096 : Shape := ⟨1, ![4096]⟩
abbrev S4096x1 : Shape := ⟨2, ![4096, 1]⟩
abbrev S4096x8 : Shape := ⟨2, ![4096, 8]⟩
abbrev S4096x8x1 : Shape := ⟨3, ![4096, 8, 1]⟩
abbrev S4096x8x256 : Shape := ⟨3, ![4096, 8, 256]⟩
abbrev S256 : Shape := ⟨1, ![256]⟩
abbrev S1x256 : Shape := ⟨2, ![1, 256]⟩
abbrev S3968x1 : Shape := ⟨2, ![3968, 1]⟩
abbrev S3968x256 : Shape := ⟨2, ![3968, 256]⟩
abbrev S128x256 : Shape := ⟨2, ![128, 256]⟩
abbrev S3968 : Shape := ⟨1, ![3968]⟩
abbrev S31x128 : Shape := ⟨2, ![31, 128]⟩
abbrev S128x31 : Shape := ⟨2, ![128, 31]⟩
abbrev S32x128x256 : Shape := ⟨3, ![32, 128, 256]⟩
abbrev S32x8x256 : Shape := ⟨3, ![32, 8, 256]⟩
abbrev S8x31 : Shape := ⟨2, ![8, 31]⟩
abbrev S8x32 : Shape := ⟨2, ![8, 32]⟩
abbrev S31x32 : Shape := ⟨2, ![31, 32]⟩
abbrev S32x1x256 : Shape := ⟨3, ![32, 1, 256]⟩
abbrev S32x256 : Shape := ⟨2, ![32, 256]⟩
abbrev S32x32 : Shape := ⟨2, ![32, 32]⟩
abbrev S31x1 : Shape := ⟨2, ![31, 1]⟩
abbrev S31 : Shape := ⟨1, ![31]⟩
abbrev S1x31 : Shape := ⟨2, ![1, 31]⟩
abbrev S1x1 : Shape := ⟨2, ![1, 1]⟩
abbrev S1x32 : Shape := ⟨2, ![1, 32]⟩
abbrev S31x256 : Shape := ⟨2, ![31, 256]⟩

abbrev nBuf : Space → Nat
  | .hbm => 155
  | .vmem => 20
  | .smem => 0
  | _ => 0

abbrev hbmTy0_0 (i : Nat) : BufTy := match i % 128 with
  | 0 => ⟨S128x32, .i32⟩
  | 1 => ⟨S128x32, .i32⟩
  | 2 => ⟨S128x32, .i32⟩
  | 3 => ⟨S128x32, .i32⟩
  | 4 => ⟨S10000x8, .i32⟩
  | 5 => ⟨S512x4, .i32⟩
  | 6 => ⟨S10000x8, .i32⟩
  | 7 => ⟨S4096x4, .i32⟩
  | 8 => ⟨S10000x256, .f32⟩
  | 9 => ⟨S512x256, .f32⟩
  | 10 => ⟨S4096x256, .f32⟩
  | 11 => ⟨S10000x256, .f32⟩
  | 12 => ⟨S2x256, .f32⟩
  | 13 => ⟨S768x256, .f32⟩
  | 14 => ⟨S256x256, .f32⟩
  | 15 => ⟨S512, .f32⟩
  | 16 => ⟨S_, .i32⟩
  | 17 => ⟨S512x4, .i32⟩
  | 18 => ⟨S512x4, .i1⟩
  | 19 => ⟨S_, .i32⟩
  | 20 => ⟨S512x4, .i32⟩
  | 21 => ⟨S512x4, .i32⟩
  | 22 => ⟨S512x4, .i32⟩
  | 23 => ⟨S512x4x1, .i32⟩
  | 24 => ⟨S512x4x256, .f32⟩
  | 25 => ⟨S_, .f32⟩
  | 26 => ⟨S512x256, .f32⟩
  | 27 => ⟨S_, .f32⟩
  | 28 => ⟨S512x256, .f32⟩
  | 29 => ⟨S512x256, .f32⟩
  | 30 => ⟨S512x256, .f32⟩
  | 31 => ⟨S512x256, .f32⟩
  | 32 => ⟨S_, .i32⟩
  | 33 => ⟨S4096x4, .i32⟩
  | 34 => ⟨S4096x4, .i1⟩
  | 35 => ⟨S_, .i32⟩
  | 36 => ⟨S4096x4, .i32⟩
  | 37 => ⟨S4096x4, .i32⟩
  | 38 => ⟨S4096x4, .i32⟩
  | 39 => ⟨S4096x4x1, .i32⟩
  | 40 => ⟨S4096x4x256, .f32⟩
  | 41 => ⟨S_, .f32⟩
  | 42 => ⟨S4096x256, .f32⟩
  | 43 => ⟨S_, .f32⟩
  | 44 => ⟨S4096x256, .f32⟩
  | 45 => ⟨S4096x256, .f32⟩
  | 46 => ⟨S4096x256, .f32⟩
  | 47 => ⟨S4096x256, .f32⟩
  | 48 => ⟨S32x128, .i32⟩
  | 49 => ⟨S4096, .i32⟩
  | 50 => ⟨S32x128, .i32⟩
  | 51 => ⟨S4096, .i32⟩
  | 52 => ⟨S32x128, .i32⟩
  | 53 => ⟨S4096, .i32⟩
  | 54 => ⟨S_, .i32⟩
  | 55 => ⟨S4096, .i32⟩
  | 56 => ⟨S4096, .i1⟩
  | 57 => ⟨S_, .i32⟩
  | 58 => ⟨S4096, .i32⟩
  | 59 => ⟨S4096, .i32⟩
  | 60 => ⟨S4096, .i32⟩
  | 61 => ⟨S4096x1, .i32⟩
  | 62 => ⟨S4096x256, .f32⟩
  | 63 => ⟨S_, .i32⟩
  | 64 => ⟨S4096, .i32⟩
  | 65 => ⟨S4096, .i1⟩
  | 66 => ⟨S_, .i32⟩
  | 67 => ⟨S4096, .i32⟩
  | 68 => ⟨S4096, .i32⟩
  | 69 => ⟨S4096, .i32⟩
  | 70 => ⟨S4096x1, .i32⟩
  | 71 => ⟨S4096x256, .f32⟩
  | 72 => ⟨S_, .i32⟩
  | 73 => ⟨S4096, .i32⟩
  | 74 => ⟨S4096, .i1⟩
  | 75 => ⟨S_, .i32⟩
  | 76 => ⟨S4096, .i32⟩
  | 77 => ⟨S4096, .i32⟩
  | 78 => ⟨S4096, .i32⟩
  | 79 => ⟨S4096x1, .i32⟩
  | 80 => ⟨S4096x256, .f32⟩
  | 81 => ⟨S_, .i32⟩
  | 82 => ⟨S4096, .i32⟩
  | 83 => ⟨S4096, .i1⟩
  | 84 => ⟨S_, .i32⟩
  | 85 => ⟨S4096, .i32⟩
  | 86 => ⟨S4096, .i32⟩
  | 87 => ⟨S4096, .i32⟩
  | 88 => ⟨S4096x1, .i32⟩
  | 89 => ⟨S4096x8, .i32⟩
  | 90 => ⟨S_, .i32⟩
  | 91 => ⟨S4096x8, .i32⟩
  | 92 => ⟨S4096x8, .i1⟩
  | 93 => ⟨S_, .i32⟩
  | 94 => ⟨S4096x8, .i32⟩
  | 95 => ⟨S4096x8, .i32⟩
  | 96 => ⟨S4096x8, .i32⟩
  | 97 => ⟨S4096x8x1, .i32⟩
  | 98 => ⟨S4096x8x256, .f32⟩
  | 99 => ⟨S_, .f32⟩
  | 100 => ⟨S4096x256, .f32⟩
  | 101 => ⟨S_, .f32⟩
  | 102 => ⟨S4096x256, .f32⟩
  | 103 => ⟨S4096x256, .f32⟩
  | 104 => ⟨S_, .i32⟩
  | 105 => ⟨S4096, .i32⟩
  | 106 => ⟨S4096, .i1⟩
  | 107 => ⟨S_, .i32⟩
  | 108 => ⟨S4096, .i32⟩
  | 109 => ⟨S4096, .i32⟩
  | 110 => ⟨S4096, .i32⟩
  | 111 => ⟨S4096x1, .i32⟩
  | 112 => ⟨S4096x8, .i32⟩
  | 113 => ⟨S_, .i32⟩
  | 114 => ⟨S4096x8, .i32⟩
  | 115 => ⟨S4096x8, .i1⟩
  | 116 => ⟨S_, .i32⟩
  | 117 => ⟨S4096x8, .i32⟩
  | 118 => ⟨S4096x8, .i32⟩
  | 119 => ⟨S4096x8, .i32⟩
  | 120 => ⟨S4096x8x1, .i32⟩
  | 121 => ⟨S4096x8x256, .f32⟩
  | 122 => ⟨S_, .f32⟩
  | 123 => ⟨S4096x256, .f32⟩
  | 124 => ⟨S_, .f32⟩
  | 125 => ⟨S4096x256, .f32⟩
  | 126 => ⟨S4096x256, .f32⟩
  | 127 => ⟨S_, .i32⟩
  | _ => ⟨S128x32, .i32⟩

abbrev hbmTy0_1 (i : Nat) : BufTy := match i % 128 with
  | 0 => ⟨S4096, .i32⟩
  | 1 => ⟨S4096, .i1⟩
  | 2 => ⟨S4096x1, .i1⟩
  | 3 => ⟨S4096x256, .f32⟩
  | 4 => ⟨S4096x256, .f32⟩
  | 5 => ⟨S4096x256, .i1⟩
  | 6 => ⟨S4096x256, .f32⟩
  | 7 => ⟨S4096x256, .f32⟩
  | 8 => ⟨S4096x256, .f32⟩
  | 9 => ⟨S4096x256, .f32⟩
  | 10 => ⟨S256x256, .f32⟩
  | 11 => ⟨S256x256, .f32⟩
  | 12 => ⟨S256x256, .f32⟩
  | 13 => ⟨S2x256, .f32⟩
  | 14 => ⟨S256, .f32⟩
  | 15 => ⟨S1x256, .f32⟩
  | 16 => ⟨S256, .f32⟩
  | 17 => ⟨S1x256, .f32⟩
  | 18 => ⟨S32x128, .i32⟩
  | 19 => ⟨S4096x1, .i32⟩
  | 20 => ⟨S4096x1, .f32⟩
  | 21 => ⟨S3968x1, .f32⟩
  | 22 => ⟨S31x128, .f32⟩
  | 23 => ⟨S128x31, .f32⟩
  | 24 => ⟨S32x128x256, .f32⟩
  | 25 => ⟨S32x128x256, .f32⟩
  | 26 => ⟨S128x32, .f32⟩
  | _ => ⟨S128x32, .i32⟩

abbrev hbmTy (i : Nat) : BufTy := match i / 128 with
  | 0 => hbmTy0_0 i
  | 1 => hbmTy0_1 i
  | _ => ⟨S128x32, .i32⟩

abbrev bufTy : (tb : Table) → Fin (tcTables nBuf tb) → BufTy
  | .hbm, ⟨i, _⟩ => hbmTy i
  | .local _ .vmem, ⟨0, _⟩ => ⟨S4096x256, .f32⟩
  | .local _ .vmem, ⟨1, _⟩ => ⟨S4096x256, .f32⟩
  | .local _ .vmem, ⟨2, _⟩ => ⟨S4096x1, .f32⟩
  | .local _ .vmem, ⟨3, _⟩ => ⟨S256x256, .f32⟩
  | .local _ .vmem, ⟨4, _⟩ => ⟨S256x256, .f32⟩
  | .local _ .vmem, ⟨5, _⟩ => ⟨S2x256, .f32⟩
  | .local _ .vmem, ⟨6, _⟩ => ⟨S256x256, .f32⟩
  | .local _ .vmem, ⟨7, _⟩ => ⟨S1x256, .f32⟩
  | .local _ .vmem, ⟨8, _⟩ => ⟨S3968x1, .f32⟩
  | .local _ .vmem, ⟨9, _⟩ => ⟨S4096x256, .f32⟩
  | .local _ .vmem, ⟨10, _⟩ => ⟨S3968x256, .f32⟩
  | .local _ .vmem, ⟨11, _⟩ => ⟨S32x8x256, .f32⟩
  | .local _ .vmem, ⟨12, _⟩ => ⟨S32x8x256, .f32⟩
  | .local _ .vmem, ⟨13, _⟩ => ⟨S32x8x256, .f32⟩
  | .local _ .vmem, ⟨14, _⟩ => ⟨S32x8x256, .f32⟩
  | .local _ .vmem, ⟨15, _⟩ => ⟨S8x31, .f32⟩
  | .local _ .vmem, ⟨16, _⟩ => ⟨S8x31, .f32⟩
  | .local _ .vmem, ⟨17, _⟩ => ⟨S1x256, .f32⟩
  | .local _ .vmem, ⟨18, _⟩ => ⟨S8x32, .f32⟩
  | .local _ .vmem, ⟨19, _⟩ => ⟨S8x32, .f32⟩
  | _, _ => ⟨S128x32, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_c : Ref sig .tc := ⟨.hbm, 16, rfl⟩
abbrev main_v0 : Ref sig .tc := ⟨.hbm, 17, rfl⟩
abbrev main_v1 : Ref sig .tc := ⟨.hbm, 18, rfl⟩
abbrev main_c_0 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_cst : Ref sig .tc := ⟨.hbm, 25, rfl⟩
abbrev main_v7 : Ref sig .tc := ⟨.hbm, 26, rfl⟩
abbrev main_cst_1 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_c_2 : Ref sig .tc := ⟨.hbm, 32, rfl⟩
abbrev main_v12 : Ref sig .tc := ⟨.hbm, 33, rfl⟩
abbrev main_v13 : Ref sig .tc := ⟨.hbm, 34, rfl⟩
abbrev main_c_3 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_cst_4 : Ref sig .tc := ⟨.hbm, 41, rfl⟩
abbrev main_v19 : Ref sig .tc := ⟨.hbm, 42, rfl⟩
abbrev main_cst_5 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_c_6 : Ref sig .tc := ⟨.hbm, 54, rfl⟩
abbrev main_v30 : Ref sig .tc := ⟨.hbm, 55, rfl⟩
abbrev main_v31 : Ref sig .tc := ⟨.hbm, 56, rfl⟩
abbrev main_c_7 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_c_8 : Ref sig .tc := ⟨.hbm, 63, rfl⟩
abbrev main_v37 : Ref sig .tc := ⟨.hbm, 64, rfl⟩
abbrev main_v38 : Ref sig .tc := ⟨.hbm, 65, rfl⟩
abbrev main_c_9 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_c_10 : Ref sig .tc := ⟨.hbm, 72, rfl⟩
abbrev main_v44 : Ref sig .tc := ⟨.hbm, 73, rfl⟩
abbrev main_v45 : Ref sig .tc := ⟨.hbm, 74, rfl⟩
abbrev main_c_11 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_c_12 : Ref sig .tc := ⟨.hbm, 81, rfl⟩
abbrev main_v51 : Ref sig .tc := ⟨.hbm, 82, rfl⟩
abbrev main_v52 : Ref sig .tc := ⟨.hbm, 83, rfl⟩
abbrev main_c_13 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_c_14 : Ref sig .tc := ⟨.hbm, 90, rfl⟩
abbrev main_v58 : Ref sig .tc := ⟨.hbm, 91, rfl⟩
abbrev main_v59 : Ref sig .tc := ⟨.hbm, 92, rfl⟩
abbrev main_c_15 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_cst_16 : Ref sig .tc := ⟨.hbm, 99, rfl⟩
abbrev main_v65 : Ref sig .tc := ⟨.hbm, 100, rfl⟩
abbrev main_cst_17 : Ref sig .tc := ⟨.hbm, 101, rfl⟩
abbrev main_v66 : Ref sig .tc := ⟨.hbm, 102, rfl⟩
abbrev main_v67 : Ref sig .tc := ⟨.hbm, 103, rfl⟩
abbrev main_c_18 : Ref sig .tc := ⟨.hbm, 104, rfl⟩
abbrev main_v68 : Ref sig .tc := ⟨.hbm, 105, rfl⟩
abbrev main_v69 : Ref sig .tc := ⟨.hbm, 106, rfl⟩
abbrev main_c_19 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_c_20 : Ref sig .tc := ⟨.hbm, 113, rfl⟩
abbrev main_v75 : Ref sig .tc := ⟨.hbm, 114, rfl⟩
abbrev main_v76 : Ref sig .tc := ⟨.hbm, 115, rfl⟩
abbrev main_c_21 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_cst_22 : Ref sig .tc := ⟨.hbm, 122, rfl⟩
abbrev main_v82 : Ref sig .tc := ⟨.hbm, 123, rfl⟩
abbrev main_cst_23 : Ref sig .tc := ⟨.hbm, 124, rfl⟩
abbrev main_v83 : Ref sig .tc := ⟨.hbm, 125, rfl⟩
abbrev main_v84 : Ref sig .tc := ⟨.hbm, 126, rfl⟩
abbrev main_c_24 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_call0_v0 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_scratch0 : Ref sig .tc := ⟨.vmem, 9, rfl⟩
abbrev cc0_scratch1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg4_1 : Ref sig .tc := ⟨.vmem, 19, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem4_0 : DmaSem sig := 16
abbrev cc1_sem4_1 : DmaSem sig := 17

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c31_i32 : BitVec 32 := 31#32
  let v29 : BitVec 32 := Scalar.addi c0_i32 c31_i32
  let c1_i32 : BitVec 32 := 1#32
  ⟨c0_i32, v29, c1_i32⟩
def k0_off1 (k0_t1 : Fin k0_t1_loop.trips) : Fin 2 → Nat :=
  let c0_i32 : BitVec 32 := 0#32
  let c1_i32 : BitVec 32 := 1#32
  let arg11 : BitVec 32 := Scf.iv c0_i32 c1_i32 k0_t1
  let c128_i32 : BitVec 32 := 128#32
  let v39 : BitVec 32 := Scalar.muli arg11 c128_i32
  let v40 : Index := Scalar.indexCast v39
  let c0_26 : Index := 0#32
  ![v40.toNat, 0]
def k0_off2 (k0_t1 : Fin k0_t1_loop.trips) : Fin 2 → Nat :=
  let c0_i32 : BitVec 32 := 0#32
  let c1_i32 : BitVec 32 := 1#32
  let arg11 : BitVec 32 := Scf.iv c0_i32 c1_i32 k0_t1
  let c128_i32_28 : BitVec 32 := 128#32
  let v45 : BitVec 32 := Scalar.muli arg11 c128_i32_28
  let v46 : Index := Scalar.indexCast v45
  let c0_29 : Index := 0#32
  ![v46.toNat, 0]
abbrev stage0_0 : Fin 1 → Memref sig .tc .vmem S4096x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S3968x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev grid1 : Pipeline.Grid := ⟨1, ![16], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S32x8x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S32x8x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8x31 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S8x32 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]
-- ==== ReferenceIdeal.lean ====
abbrev S128x32 : Shape := ⟨2, ![128, 32]⟩
abbrev S10000x8 : Shape := ⟨2, ![10000, 8]⟩
abbrev S512x4 : Shape := ⟨2, ![512, 4]⟩
abbrev S4096x4 : Shape := ⟨2, ![4096, 4]⟩
abbrev S10000x256 : Shape := ⟨2, ![10000, 256]⟩
abbrev S512x256 : Shape := ⟨2, ![512, 256]⟩
abbrev S4096x256 : Shape := ⟨2, ![4096, 256]⟩
abbrev S2x256 : Shape := ⟨2, ![2, 256]⟩
abbrev S768x256 : Shape := ⟨2, ![768, 256]⟩
abbrev S256x256 : Shape := ⟨2, ![256, 256]⟩
abbrev S512 : Shape := ⟨1, ![512]⟩
abbrev S_ : Shape := ⟨0, ![]⟩
abbrev S128x32x1 : Shape := ⟨3, ![128, 32, 1]⟩
abbrev S128x32x8 : Shape := ⟨3, ![128, 32, 8]⟩
abbrev S128x32x8x1 : Shape := ⟨4, ![128, 32, 8, 1]⟩
abbrev S128x32x8x256 : Shape := ⟨4, ![128, 32, 8, 256]⟩
abbrev S128x32x8x4 : Shape := ⟨4, ![128, 32, 8, 4]⟩
abbrev S128x32x8x4x1 : Shape := ⟨5, ![128, 32, 8, 4, 1]⟩
abbrev S128x32x8x4x256 : Shape := ⟨5, ![128, 32, 8, 4, 256]⟩
abbrev S128x32x256 : Shape := ⟨3, ![128, 32, 256]⟩
abbrev S128x32x768 : Shape := ⟨3, ![128, 32, 768]⟩
abbrev S128x256 : Shape := ⟨2, ![128, 256]⟩
abbrev S128x1x768 : Shape := ⟨3, ![128, 1, 768]⟩
abbrev S128x768 : Shape := ⟨2, ![128, 768]⟩
abbrev S128x1x256 : Shape := ⟨3, ![128, 1, 256]⟩
abbrev S128x16x256 : Shape := ⟨3, ![128, 16, 256]⟩
abbrev S128x15x256 : Shape := ⟨3, ![128, 15, 256]⟩
abbrev S128x31x256 : Shape := ⟨3, ![128, 31, 256]⟩
abbrev S128x31x31 : Shape := ⟨3, ![128, 31, 31]⟩
abbrev S31 : Shape := ⟨1, ![31]⟩
abbrev S1x31 : Shape := ⟨2, ![1, 31]⟩
abbrev S31x1 : Shape := ⟨2, ![31, 1]⟩
abbrev S31x31 : Shape := ⟨2, ![31, 31]⟩
abbrev S1x31x31 : Shape := ⟨3, ![1, 31, 31]⟩
abbrev S128x31x10 : Shape := ⟨3, ![128, 31, 10]⟩
abbrev S128x31x10x1 : Shape := ⟨4, ![128, 31, 10, 1]⟩
abbrev S128x31x10x256 : Shape := ⟨4, ![128, 31, 10, 256]⟩
abbrev S128x31 : Shape := ⟨2, ![128, 31]⟩
abbrev S128x31x1 : Shape := ⟨3, ![128, 31, 1]⟩
abbrev S128x31x512 : Shape := ⟨3, ![128, 31, 512]⟩
abbrev S128x1 : Shape := ⟨2, ![128, 1]⟩

abbrev nBuf : Space → Nat
  | .hbm => 444
  | .vmem => 0
  | .smem => 0
  | _ => 0

abbrev hbmTy0_0 (i : Nat) : BufTy := match i % 128 with
  | 0 => ⟨S128x32, .i32⟩
  | 1 => ⟨S128x32, .i32⟩
  | 2 => ⟨S128x32, .i32⟩
  | 3 => ⟨S128x32, .i32⟩
  | 4 => ⟨S10000x8, .i32⟩
  | 5 => ⟨S512x4, .i32⟩
  | 6 => ⟨S10000x8, .i32⟩
  | 7 => ⟨S4096x4, .i32⟩
  | 8 => ⟨S10000x256, .f32⟩
  | 9 => ⟨S512x256, .f32⟩
  | 10 => ⟨S4096x256, .f32⟩
  | 11 => ⟨S10000x256, .f32⟩
  | 12 => ⟨S2x256, .f32⟩
  | 13 => ⟨S768x256, .f32⟩
  | 14 => ⟨S256x256, .f32⟩
  | 15 => ⟨S512, .f32⟩
  | 16 => ⟨S_, .i32⟩
  | 17 => ⟨S128x32, .i32⟩
  | 18 => ⟨S128x32, .i1⟩
  | 19 => ⟨S_, .i32⟩
  | 20 => ⟨S128x32, .i32⟩
  | 21 => ⟨S128x32, .i32⟩
  | 22 => ⟨S128x32, .i32⟩
  | 23 => ⟨S128x32x1, .i32⟩
  | 24 => ⟨S128x32x8, .i32⟩
  | 25 => ⟨S_, .i32⟩
  | 26 => ⟨S128x32x8, .i32⟩
  | 27 => ⟨S128x32x8, .i1⟩
  | 28 => ⟨S_, .i32⟩
  | 29 => ⟨S128x32x8, .i32⟩
  | 30 => ⟨S128x32x8, .i32⟩
  | 31 => ⟨S128x32x8, .i32⟩
  | 32 => ⟨S128x32x8x1, .i32⟩
  | 33 => ⟨S128x32x8x256, .f32⟩
  | 34 => ⟨S_, .i32⟩
  | 35 => ⟨S128x32x8, .i32⟩
  | 36 => ⟨S128x32x8, .i1⟩
  | 37 => ⟨S_, .i32⟩
  | 38 => ⟨S128x32x8, .i32⟩
  | 39 => ⟨S128x32x8, .i32⟩
  | 40 => ⟨S128x32x8, .i32⟩
  | 41 => ⟨S128x32x8x1, .i32⟩
  | 42 => ⟨S128x32x8x4, .i32⟩
  | 43 => ⟨S_, .i32⟩
  | 44 => ⟨S128x32x8x4, .i32⟩
  | 45 => ⟨S128x32x8x4, .i1⟩
  | 46 => ⟨S_, .i32⟩
  | 47 => ⟨S128x32x8x4, .i32⟩
  | 48 => ⟨S128x32x8x4, .i32⟩
  | 49 => ⟨S128x32x8x4, .i32⟩
  | 50 => ⟨S128x32x8x4x1, .i32⟩
  | 51 => ⟨S128x32x8x4x256, .f32⟩
  | 52 => ⟨S_, .f32⟩
  | 53 => ⟨S128x32x8x256, .f32⟩
  | 54 => ⟨S_, .f32⟩
  | 55 => ⟨S128x32x8x256, .f32⟩
  | 56 => ⟨S128x32x8x256, .f32⟩
  | 57 => ⟨S128x32x8x256, .f32⟩
  | 58 => ⟨S128x32x8x256, .f32⟩
  | 59 => ⟨S_, .i32⟩
  | 60 => ⟨S128x32, .i32⟩
  | 61 => ⟨S128x32, .i1⟩
  | 62 => ⟨S_, .i32⟩
  | 63 => ⟨S128x32, .i32⟩
  | 64 => ⟨S128x32, .i32⟩
  | 65 => ⟨S128x32, .i32⟩
  | 66 => ⟨S128x32x1, .i32⟩
  | 67 => ⟨S128x32x256, .f32⟩
  | 68 => ⟨S_, .i32⟩
  | 69 => ⟨S128x32, .i32⟩
  | 70 => ⟨S128x32, .i1⟩
  | 71 => ⟨S128x32x1, .i1⟩
  | 72 => ⟨S_, .f32⟩
  | 73 => ⟨S128x32x256, .f32⟩
  | 74 => ⟨S_, .f32⟩
  | 75 => ⟨S128x32x256, .f32⟩
  | 76 => ⟨S128x32x256, .f32⟩
  | 77 => ⟨S128x32x256, .f32⟩
  | 78 => ⟨S128x32x256, .f32⟩
  | 79 => ⟨S128x32x256, .i1⟩
  | 80 => ⟨S128x32x256, .f32⟩
  | 81 => ⟨S_, .i32⟩
  | 82 => ⟨S128x32, .i32⟩
  | 83 => ⟨S128x32, .i1⟩
  | 84 => ⟨S_, .i32⟩
  | 85 => ⟨S128x32, .i32⟩
  | 86 => ⟨S128x32, .i32⟩
  | 87 => ⟨S128x32, .i32⟩
  | 88 => ⟨S128x32x1, .i32⟩
  | 89 => ⟨S128x32x8, .i32⟩
  | 90 => ⟨S_, .i32⟩
  | 91 => ⟨S128x32x8, .i32⟩
  | 92 => ⟨S128x32x8, .i1⟩
  | 93 => ⟨S_, .i32⟩
  | 94 => ⟨S128x32x8, .i32⟩
  | 95 => ⟨S128x32x8, .i32⟩
  | 96 => ⟨S128x32x8, .i32⟩
  | 97 => ⟨S128x32x8x1, .i32⟩
  | 98 => ⟨S128x32x8x256, .f32⟩
  | 99 => ⟨S_, .i32⟩
  | 100 => ⟨S128x32x8, .i32⟩
  | 101 => ⟨S128x32x8, .i1⟩
  | 102 => ⟨S_, .i32⟩
  | 103 => ⟨S128x32x8, .i32⟩
  | 104 => ⟨S128x32x8, .i32⟩
  | 105 => ⟨S128x32x8, .i32⟩
  | 106 => ⟨S128x32x8x1, .i32⟩
  | 107 => ⟨S128x32x8x4, .i32⟩
  | 108 => ⟨S_, .i32⟩
  | 109 => ⟨S128x32x8x4, .i32⟩
  | 110 => ⟨S128x32x8x4, .i1⟩
  | 111 => ⟨S_, .i32⟩
  | 112 => ⟨S128x32x8x4, .i32⟩
  | 113 => ⟨S128x32x8x4, .i32⟩
  | 114 => ⟨S128x32x8x4, .i32⟩
  | 115 => ⟨S128x32x8x4x1, .i32⟩
  | 116 => ⟨S128x32x8x4x256, .f32⟩
  | 117 => ⟨S_, .f32⟩
  | 118 => ⟨S128x32x8x256, .f32⟩
  | 119 => ⟨S_, .f32⟩
  | 120 => ⟨S128x32x8x256, .f32⟩
  | 121 => ⟨S128x32x8x256, .f32⟩
  | 122 => ⟨S128x32x8x256, .f32⟩
  | 123 => ⟨S128x32x8x256, .f32⟩
  | 124 => ⟨S_, .i32⟩
  | 125 => ⟨S128x32, .i32⟩
  | 126 => ⟨S128x32, .i1⟩
  | 127 => ⟨S_, .i32⟩
  | _ => ⟨S128x32, .i32⟩

abbrev hbmTy0_1 (i : Nat) : BufTy := match i % 128 with
  | 0 => ⟨S128x32, .i32⟩
  | 1 => ⟨S128x32, .i32⟩
  | 2 => ⟨S128x32, .i32⟩
  | 3 => ⟨S128x32x1, .i32⟩
  | 4 => ⟨S128x32x256, .f32⟩
  | 5 => ⟨S_, .f32⟩
  | 6 => ⟨S128x32x256, .f32⟩
  | 7 => ⟨S_, .f32⟩
  | 8 => ⟨S128x32x256, .f32⟩
  | 9 => ⟨S128x32x256, .f32⟩
  | 10 => ⟨S128x32x256, .f32⟩
  | 11 => ⟨S128x32x256, .f32⟩
  | 12 => ⟨S_, .i32⟩
  | 13 => ⟨S128x32, .i32⟩
  | 14 => ⟨S128x32, .i1⟩
  | 15 => ⟨S_, .i32⟩
  | 16 => ⟨S128x32, .i32⟩
  | 17 => ⟨S128x32, .i32⟩
  | 18 => ⟨S128x32, .i32⟩
  | 19 => ⟨S128x32x1, .i32⟩
  | 20 => ⟨S128x32x256, .f32⟩
  | 21 => ⟨S128x32x256, .f32⟩
  | 22 => ⟨S_, .i32⟩
  | 23 => ⟨S128x32, .i32⟩
  | 24 => ⟨S128x32, .i1⟩
  | 25 => ⟨S_, .i32⟩
  | 26 => ⟨S128x32, .i32⟩
  | 27 => ⟨S128x32, .i32⟩
  | 28 => ⟨S128x32, .i32⟩
  | 29 => ⟨S128x32x1, .i32⟩
  | 30 => ⟨S128x32x256, .f32⟩
  | 31 => ⟨S128x32x768, .f32⟩
  | 32 => ⟨S_, .f32⟩
  | 33 => ⟨S128x256, .f32⟩
  | 34 => ⟨S128x1x768, .f32⟩
  | 35 => ⟨S128x768, .f32⟩
  | 36 => ⟨S128x256, .f32⟩
  | 37 => ⟨S128x256, .f32⟩
  | 38 => ⟨S128x256, .f32⟩
  | 39 => ⟨S128x256, .f32⟩
  | 40 => ⟨S128x1x768, .f32⟩
  | 41 => ⟨S128x768, .f32⟩
  | 42 => ⟨S128x256, .f32⟩
  | 43 => ⟨S128x256, .f32⟩
  | 44 => ⟨S128x256, .f32⟩
  | 45 => ⟨S128x256, .f32⟩
  | 46 => ⟨S128x1x768, .f32⟩
  | 47 => ⟨S128x768, .f32⟩
  | 48 => ⟨S128x256, .f32⟩
  | 49 => ⟨S128x256, .f32⟩
  | 50 => ⟨S128x256, .f32⟩
  | 51 => ⟨S128x256, .f32⟩
  | 52 => ⟨S128x1x768, .f32⟩
  | 53 => ⟨S128x768, .f32⟩
  | 54 => ⟨S128x256, .f32⟩
  | 55 => ⟨S128x256, .f32⟩
  | 56 => ⟨S128x256, .f32⟩
  | 57 => ⟨S128x256, .f32⟩
  | 58 => ⟨S128x1x768, .f32⟩
  | 59 => ⟨S128x768, .f32⟩
  | 60 => ⟨S128x256, .f32⟩
  | 61 => ⟨S128x256, .f32⟩
  | 62 => ⟨S128x256, .f32⟩
  | 63 => ⟨S128x256, .f32⟩
  | 64 => ⟨S128x1x768, .f32⟩
  | 65 => ⟨S128x768, .f32⟩
  | 66 => ⟨S128x256, .f32⟩
  | 67 => ⟨S128x256, .f32⟩
  | 68 => ⟨S128x256, .f32⟩
  | 69 => ⟨S128x256, .f32⟩
  | 70 => ⟨S128x1x768, .f32⟩
  | 71 => ⟨S128x768, .f32⟩
  | 72 => ⟨S128x256, .f32⟩
  | 73 => ⟨S128x256, .f32⟩
  | 74 => ⟨S128x256, .f32⟩
  | 75 => ⟨S128x256, .f32⟩
  | 76 => ⟨S128x1x768, .f32⟩
  | 77 => ⟨S128x768, .f32⟩
  | 78 => ⟨S128x256, .f32⟩
  | 79 => ⟨S128x256, .f32⟩
  | 80 => ⟨S128x256, .f32⟩
  | 81 => ⟨S128x256, .f32⟩
  | 82 => ⟨S128x1x768, .f32⟩
  | 83 => ⟨S128x768, .f32⟩
  | 84 => ⟨S128x256, .f32⟩
  | 85 => ⟨S128x256, .f32⟩
  | 86 => ⟨S128x256, .f32⟩
  | 87 => ⟨S128x256, .f32⟩
  | 88 => ⟨S128x1x768, .f32⟩
  | 89 => ⟨S128x768, .f32⟩
  | 90 => ⟨S128x256, .f32⟩
  | 91 => ⟨S128x256, .f32⟩
  | 92 => ⟨S128x256, .f32⟩
  | 93 => ⟨S128x256, .f32⟩
  | 94 => ⟨S128x1x768, .f32⟩
  | 95 => ⟨S128x768, .f32⟩
  | 96 => ⟨S128x256, .f32⟩
  | 97 => ⟨S128x256, .f32⟩
  | 98 => ⟨S128x256, .f32⟩
  | 99 => ⟨S128x256, .f32⟩
  | 100 => ⟨S128x1x768, .f32⟩
  | 101 => ⟨S128x768, .f32⟩
  | 102 => ⟨S128x256, .f32⟩
  | 103 => ⟨S128x256, .f32⟩
  | 104 => ⟨S128x256, .f32⟩
  | 105 => ⟨S128x256, .f32⟩
  | 106 => ⟨S128x1x768, .f32⟩
  | 107 => ⟨S128x768, .f32⟩
  | 108 => ⟨S128x256, .f32⟩
  | 109 => ⟨S128x256, .f32⟩
  | 110 => ⟨S128x256, .f32⟩
  | 111 => ⟨S128x256, .f32⟩
  | 112 => ⟨S128x1x768, .f32⟩
  | 113 => ⟨S128x768, .f32⟩
  | 114 => ⟨S128x256, .f32⟩
  | 115 => ⟨S128x256, .f32⟩
  | 116 => ⟨S128x256, .f32⟩
  | 117 => ⟨S128x256, .f32⟩
  | 118 => ⟨S128x1x768, .f32⟩
  | 119 => ⟨S128x768, .f32⟩
  | 120 => ⟨S128x256, .f32⟩
  | 121 => ⟨S128x256, .f32⟩
  | 122 => ⟨S128x256, .f32⟩
  | 123 => ⟨S128x256, .f32⟩
  | 124 => ⟨S128x1x768, .f32⟩
  | 125 => ⟨S128x768, .f32⟩
  | 126 => ⟨S128x256, .f32⟩
  | 127 => ⟨S128x256, .f32⟩
  | _ => ⟨S128x32, .i32⟩

abbrev hbmTy0_2 (i : Nat) : BufTy := match i % 128 with
  | 0 => ⟨S128x256, .f32⟩
  | 1 => ⟨S128x256, .f32⟩
  | 2 => ⟨S128x1x768, .f32⟩
  | 3 => ⟨S128x768, .f32⟩
  | 4 => ⟨S128x256, .f32⟩
  | 5 => ⟨S128x256, .f32⟩
  | 6 => ⟨S128x256, .f32⟩
  | 7 => ⟨S128x256, .f32⟩
  | 8 => ⟨S128x1x768, .f32⟩
  | 9 => ⟨S128x768, .f32⟩
  | 10 => ⟨S128x256, .f32⟩
  | 11 => ⟨S128x256, .f32⟩
  | 12 => ⟨S128x256, .f32⟩
  | 13 => ⟨S128x256, .f32⟩
  | 14 => ⟨S128x1x768, .f32⟩
  | 15 => ⟨S128x768, .f32⟩
  | 16 => ⟨S128x256, .f32⟩
  | 17 => ⟨S128x256, .f32⟩
  | 18 => ⟨S128x256, .f32⟩
  | 19 => ⟨S128x256, .f32⟩
  | 20 => ⟨S128x1x768, .f32⟩
  | 21 => ⟨S128x768, .f32⟩
  | 22 => ⟨S128x256, .f32⟩
  | 23 => ⟨S128x256, .f32⟩
  | 24 => ⟨S128x256, .f32⟩
  | 25 => ⟨S128x256, .f32⟩
  | 26 => ⟨S128x1x768, .f32⟩
  | 27 => ⟨S128x768, .f32⟩
  | 28 => ⟨S128x256, .f32⟩
  | 29 => ⟨S128x256, .f32⟩
  | 30 => ⟨S128x256, .f32⟩
  | 31 => ⟨S128x256, .f32⟩
  | 32 => ⟨S128x1x768, .f32⟩
  | 33 => ⟨S128x768, .f32⟩
  | 34 => ⟨S128x256, .f32⟩
  | 35 => ⟨S128x256, .f32⟩
  | 36 => ⟨S128x256, .f32⟩
  | 37 => ⟨S128x256, .f32⟩
  | 38 => ⟨S128x1x768, .f32⟩
  | 39 => ⟨S128x768, .f32⟩
  | 40 => ⟨S128x256, .f32⟩
  | 41 => ⟨S128x256, .f32⟩
  | 42 => ⟨S128x256, .f32⟩
  | 43 => ⟨S128x256, .f32⟩
  | 44 => ⟨S128x1x768, .f32⟩
  | 45 => ⟨S128x768, .f32⟩
  | 46 => ⟨S128x256, .f32⟩
  | 47 => ⟨S128x256, .f32⟩
  | 48 => ⟨S128x256, .f32⟩
  | 49 => ⟨S128x256, .f32⟩
  | 50 => ⟨S128x1x768, .f32⟩
  | 51 => ⟨S128x768, .f32⟩
  | 52 => ⟨S128x256, .f32⟩
  | 53 => ⟨S128x256, .f32⟩
  | 54 => ⟨S128x256, .f32⟩
  | 55 => ⟨S128x256, .f32⟩
  | 56 => ⟨S128x1x768, .f32⟩
  | 57 => ⟨S128x768, .f32⟩
  | 58 => ⟨S128x256, .f32⟩
  | 59 => ⟨S128x256, .f32⟩
  | 60 => ⟨S128x256, .f32⟩
  | 61 => ⟨S128x256, .f32⟩
  | 62 => ⟨S128x1x768, .f32⟩
  | 63 => ⟨S128x768, .f32⟩
  | 64 => ⟨S128x256, .f32⟩
  | 65 => ⟨S128x256, .f32⟩
  | 66 => ⟨S128x256, .f32⟩
  | 67 => ⟨S128x256, .f32⟩
  | 68 => ⟨S128x1x768, .f32⟩
  | 69 => ⟨S128x768, .f32⟩
  | 70 => ⟨S128x256, .f32⟩
  | 71 => ⟨S128x256, .f32⟩
  | 72 => ⟨S128x256, .f32⟩
  | 73 => ⟨S128x256, .f32⟩
  | 74 => ⟨S128x1x768, .f32⟩
  | 75 => ⟨S128x768, .f32⟩
  | 76 => ⟨S128x256, .f32⟩
  | 77 => ⟨S128x256, .f32⟩
  | 78 => ⟨S128x256, .f32⟩
  | 79 => ⟨S128x256, .f32⟩
  | 80 => ⟨S128x1x768, .f32⟩
  | 81 => ⟨S128x768, .f32⟩
  | 82 => ⟨S128x256, .f32⟩
  | 83 => ⟨S128x256, .f32⟩
  | 84 => ⟨S128x256, .f32⟩
  | 85 => ⟨S128x256, .f32⟩
  | 86 => ⟨S128x1x768, .f32⟩
  | 87 => ⟨S128x768, .f32⟩
  | 88 => ⟨S128x256, .f32⟩
  | 89 => ⟨S128x256, .f32⟩
  | 90 => ⟨S128x256, .f32⟩
  | 91 => ⟨S128x256, .f32⟩
  | 92 => ⟨S128x1x256, .f32⟩
  | 93 => ⟨S128x1x256, .f32⟩
  | 94 => ⟨S128x1x256, .f32⟩
  | 95 => ⟨S128x1x256, .f32⟩
  | 96 => ⟨S128x1x256, .f32⟩
  | 97 => ⟨S128x1x256, .f32⟩
  | 98 => ⟨S128x1x256, .f32⟩
  | 99 => ⟨S128x1x256, .f32⟩
  | 100 => ⟨S128x1x256, .f32⟩
  | 101 => ⟨S128x1x256, .f32⟩
  | 102 => ⟨S128x1x256, .f32⟩
  | 103 => ⟨S128x1x256, .f32⟩
  | 104 => ⟨S128x1x256, .f32⟩
  | 105 => ⟨S128x1x256, .f32⟩
  | 106 => ⟨S128x1x256, .f32⟩
  | 107 => ⟨S128x1x256, .f32⟩
  | 108 => ⟨S128x1x256, .f32⟩
  | 109 => ⟨S128x1x256, .f32⟩
  | 110 => ⟨S128x1x256, .f32⟩
  | 111 => ⟨S128x1x256, .f32⟩
  | 112 => ⟨S128x1x256, .f32⟩
  | 113 => ⟨S128x1x256, .f32⟩
  | 114 => ⟨S128x1x256, .f32⟩
  | 115 => ⟨S128x1x256, .f32⟩
  | 116 => ⟨S128x1x256, .f32⟩
  | 117 => ⟨S128x1x256, .f32⟩
  | 118 => ⟨S128x1x256, .f32⟩
  | 119 => ⟨S128x1x256, .f32⟩
  | 120 => ⟨S128x1x256, .f32⟩
  | 121 => ⟨S128x1x256, .f32⟩
  | 122 => ⟨S128x1x256, .f32⟩
  | 123 => ⟨S128x16x256, .f32⟩
  | 124 => ⟨S128x15x256, .f32⟩
  | 125 => ⟨S128x31x256, .f32⟩
  | 126 => ⟨S128x31x256, .f32⟩
  | 127 => ⟨S128x31x256, .f32⟩
  | _ => ⟨S128x32, .i32⟩

abbrev hbmTy0_3 (i : Nat) : BufTy := match i % 128 with
  | 0 => ⟨S128x31x31, .f32⟩
  | 1 => ⟨S31, .i32⟩
  | 2 => ⟨S1x31, .i32⟩
  | 3 => ⟨S31, .i32⟩
  | 4 => ⟨S31x1, .i32⟩
  | 5 => ⟨S31x31, .i32⟩
  | 6 => ⟨S31x31, .i32⟩
  | 7 => ⟨S31x31, .i1⟩
  | 8 => ⟨S1x31x31, .i1⟩
  | 9 => ⟨S_, .f32⟩
  | 10 => ⟨S_, .f32⟩
  | 11 => ⟨S128x31x31, .i1⟩
  | 12 => ⟨S128x31x31, .f32⟩
  | 13 => ⟨S128x31x31, .f32⟩
  | 14 => ⟨S128x31x10, .f32⟩
  | 15 => ⟨S128x31x10, .i32⟩
  | 16 => ⟨S_, .i32⟩
  | 17 => ⟨S128x31x10, .i32⟩
  | 18 => ⟨S128x31x10, .i1⟩
  | 19 => ⟨S_, .i32⟩
  | 20 => ⟨S128x31x10, .i32⟩
  | 21 => ⟨S128x31x10, .i32⟩
  | 22 => ⟨S128x31x10, .i32⟩
  | 23 => ⟨S128x31x10x1, .i32⟩
  | 24 => ⟨S128x31x10x256, .f32⟩
  | 25 => ⟨S_, .f32⟩
  | 26 => ⟨S128x31, .f32⟩
  | 27 => ⟨S_, .f32⟩
  | 28 => ⟨S128x31, .f32⟩
  | 29 => ⟨S128x31, .f32⟩
  | 30 => ⟨S128x31x1, .f32⟩
  | 31 => ⟨S128x31x10, .f32⟩
  | 32 => ⟨S128x31x10, .f32⟩
  | 33 => ⟨S128x31x10, .f32⟩
  | 34 => ⟨S_, .f32⟩
  | 35 => ⟨S128x31, .f32⟩
  | 36 => ⟨S128x31x1, .f32⟩
  | 37 => ⟨S128x31x10, .f32⟩
  | 38 => ⟨S128x31x10, .f32⟩
  | 39 => ⟨S128x31x10x1, .f32⟩
  | 40 => ⟨S128x31x10x256, .f32⟩
  | 41 => ⟨S128x31x10x256, .f32⟩
  | 42 => ⟨S_, .f32⟩
  | 43 => ⟨S128x31x256, .f32⟩
  | 44 => ⟨S128x31x256, .f32⟩
  | 45 => ⟨S128x31x256, .f32⟩
  | 46 => ⟨S128x31x256, .f32⟩
  | 47 => ⟨S128x31x512, .f32⟩
  | 48 => ⟨S128x31, .f32⟩
  | 49 => ⟨S128x31, .f32⟩
  | 50 => ⟨S128x31, .f32⟩
  | 51 => ⟨S_, .f32⟩
  | 52 => ⟨S128x31, .f32⟩
  | 53 => ⟨S128x31, .f32⟩
  | 54 => ⟨S_, .f32⟩
  | 55 => ⟨S128x31, .f32⟩
  | 56 => ⟨S128x31, .f32⟩
  | 57 => ⟨S_, .f32⟩
  | 58 => ⟨S128x1, .f32⟩
  | 59 => ⟨S128x32, .f32⟩
  | _ => ⟨S128x32, .i32⟩

abbrev hbmTy (i : Nat) : BufTy := match i / 128 with
  | 0 => hbmTy0_0 i
  | 1 => hbmTy0_1 i
  | 2 => hbmTy0_2 i
  | 3 => hbmTy0_3 i
  | _ => ⟨S128x32, .i32⟩

abbrev bufTy : (tb : Table) → Fin (tcTables nBuf tb) → BufTy
  | .hbm, ⟨i, _⟩ => hbmTy i
  | _, _ => ⟨S128x32, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_c : Ref sig .tc := ⟨.hbm, 16, rfl⟩
abbrev main_v0 : Ref sig .tc := ⟨.hbm, 17, rfl⟩
abbrev main_v1 : Ref sig .tc := ⟨.hbm, 18, rfl⟩
abbrev main_c_0 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_c_1 : Ref sig .tc := ⟨.hbm, 25, rfl⟩
abbrev main_v7 : Ref sig .tc := ⟨.hbm, 26, rfl⟩
abbrev main_v8 : Ref sig .tc := ⟨.hbm, 27, rfl⟩
abbrev main_c_2 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_c_3 : Ref sig .tc := ⟨.hbm, 34, rfl⟩
abbrev main_v14 : Ref sig .tc := ⟨.hbm, 35, rfl⟩
abbrev main_v15 : Ref sig .tc := ⟨.hbm, 36, rfl⟩
abbrev main_c_4 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_c_5 : Ref sig .tc := ⟨.hbm, 43, rfl⟩
abbrev main_v21 : Ref sig .tc := ⟨.hbm, 44, rfl⟩
abbrev main_v22 : Ref sig .tc := ⟨.hbm, 45, rfl⟩
abbrev main_c_6 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_cst : Ref sig .tc := ⟨.hbm, 52, rfl⟩
abbrev main_v28 : Ref sig .tc := ⟨.hbm, 53, rfl⟩
abbrev main_cst_7 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_c_8 : Ref sig .tc := ⟨.hbm, 59, rfl⟩
abbrev main_v33 : Ref sig .tc := ⟨.hbm, 60, rfl⟩
abbrev main_v34 : Ref sig .tc := ⟨.hbm, 61, rfl⟩
abbrev main_c_9 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_c_10 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_cst_11 : Ref sig .tc := ⟨.hbm, 72, rfl⟩
abbrev main_v43 : Ref sig .tc := ⟨.hbm, 73, rfl⟩
abbrev main_cst_12 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_call0_v0 : Ref sig .tc := ⟨.hbm, 79, rfl⟩
abbrev main_v48 : Ref sig .tc := ⟨.hbm, 80, rfl⟩
abbrev main_c_13 : Ref sig .tc := ⟨.hbm, 81, rfl⟩
abbrev main_v49 : Ref sig .tc := ⟨.hbm, 82, rfl⟩
abbrev main_v50 : Ref sig .tc := ⟨.hbm, 83, rfl⟩
abbrev main_c_14 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_c_15 : Ref sig .tc := ⟨.hbm, 90, rfl⟩
abbrev main_v56 : Ref sig .tc := ⟨.hbm, 91, rfl⟩
abbrev main_v57 : Ref sig .tc := ⟨.hbm, 92, rfl⟩
abbrev main_c_16 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_c_17 : Ref sig .tc := ⟨.hbm, 99, rfl⟩
abbrev main_v63 : Ref sig .tc := ⟨.hbm, 100, rfl⟩
abbrev main_v64 : Ref sig .tc := ⟨.hbm, 101, rfl⟩
abbrev main_c_18 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_c_19 : Ref sig .tc := ⟨.hbm, 108, rfl⟩
abbrev main_v70 : Ref sig .tc := ⟨.hbm, 109, rfl⟩
abbrev main_v71 : Ref sig .tc := ⟨.hbm, 110, rfl⟩
abbrev main_c_20 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_cst_21 : Ref sig .tc := ⟨.hbm, 117, rfl⟩
abbrev main_v77 : Ref sig .tc := ⟨.hbm, 118, rfl⟩
abbrev main_cst_22 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_c_23 : Ref sig .tc := ⟨.hbm, 124, rfl⟩
abbrev main_v82 : Ref sig .tc := ⟨.hbm, 125, rfl⟩
abbrev main_v83 : Ref sig .tc := ⟨.hbm, 126, rfl⟩
abbrev main_c_24 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_cst_25 : Ref sig .tc := ⟨.hbm, 133, rfl⟩
abbrev main_v89 : Ref sig .tc := ⟨.hbm, 134, rfl⟩
abbrev main_cst_26 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_c_27 : Ref sig .tc := ⟨.hbm, 140, rfl⟩
abbrev main_v94 : Ref sig .tc := ⟨.hbm, 141, rfl⟩
abbrev main_v95 : Ref sig .tc := ⟨.hbm, 142, rfl⟩
abbrev main_c_28 : Ref sig .tc := ⟨.hbm, 143, rfl⟩
abbrev main_v96 : Ref sig .tc := ⟨.hbm, 144, rfl⟩
abbrev main_v97 : Ref sig .tc := ⟨.hbm, 145, rfl⟩
abbrev main_v98 : Ref sig .tc := ⟨.hbm, 146, rfl⟩
abbrev main_v99 : Ref sig .tc := ⟨.hbm, 147, rfl⟩
abbrev main_v100 : Ref sig .tc := ⟨.hbm, 148, rfl⟩
abbrev main_v101 : Ref sig .tc := ⟨.hbm, 149, rfl⟩
abbrev main_c_29 : Ref sig .tc := ⟨.hbm, 150, rfl⟩
abbrev main_v102 : Ref sig .tc := ⟨.hbm, 151, rfl⟩
abbrev main_v103 : Ref sig .tc := ⟨.hbm, 152, rfl⟩
abbrev main_c_30 : Ref sig .tc := ⟨.hbm, 153, rfl⟩
abbrev main_v104 : Ref sig .tc := ⟨.hbm, 154, rfl⟩
abbrev main_v105 : Ref sig .tc := ⟨.hbm, 155, rfl⟩
abbrev main_v106 : Ref sig .tc := ⟨.hbm, 156, rfl⟩
abbrev main_v107 : Ref sig .tc := ⟨.hbm, 157, rfl⟩
abbrev main_v108 : Ref sig .tc := ⟨.hbm, 158, rfl⟩
abbrev main_v109 : Ref sig .tc := ⟨.hbm, 159, rfl⟩
abbrev main_cst_31 : Ref sig .tc := ⟨.hbm, 160, rfl⟩
abbrev main_v110 : Ref sig .tc := ⟨.hbm, 161, rfl⟩
abbrev main_v111 : Ref sig .tc := ⟨.hbm, 162, rfl⟩
abbrev main_v112 : Ref sig .tc := ⟨.hbm, 163, rfl⟩
abbrev main_v113 : Ref sig .tc := ⟨.hbm, 164, rfl⟩
abbrev main_v114 : Ref sig .tc := ⟨.hbm, 165, rfl⟩
abbrev main_v115 : Ref sig .tc := ⟨.hbm, 166, rfl⟩
abbrev main_v116 : Ref sig .tc := ⟨.hbm, 167, rfl⟩
abbrev main_v117 : Ref sig .tc := ⟨.hbm, 168, rfl⟩
abbrev main_v118 : Ref sig .tc := ⟨.hbm, 169, rfl⟩
abbrev main_v119 : Ref sig .tc := ⟨.hbm, 170, rfl⟩
abbrev main_v120 : Ref sig .tc := ⟨.hbm, 171, rfl⟩
abbrev main_v121 : Ref sig .tc := ⟨.hbm, 172, rfl⟩
abbrev main_v122 : Ref sig .tc := ⟨.hbm, 173, rfl⟩
abbrev main_v123 : Ref sig .tc := ⟨.hbm, 174, rfl⟩
abbrev main_v124 : Ref sig .tc := ⟨.hbm, 175, rfl⟩
abbrev main_v125 : Ref sig .tc := ⟨.hbm, 176, rfl⟩
abbrev main_v126 : Ref sig .tc := ⟨.hbm, 177, rfl⟩
abbrev main_v127 : Ref sig .tc := ⟨.hbm, 178, rfl⟩
abbrev main_v128 : Ref sig .tc := ⟨.hbm, 179, rfl⟩
abbrev main_v129 : Ref sig .tc := ⟨.hbm, 180, rfl⟩
abbrev main_v130 : Ref sig .tc := ⟨.hbm, 181, rfl⟩
abbrev main_v131 : Ref sig .tc := ⟨.hbm, 182, rfl⟩
abbrev main_v132 : Ref sig .tc := ⟨.hbm, 183, rfl⟩
abbrev main_v133 : Ref sig .tc := ⟨.hbm, 184, rfl⟩
abbrev main_v134 : Ref sig .tc := ⟨.hbm, 185, rfl⟩
abbrev main_v135 : Ref sig .tc := ⟨.hbm, 186, rfl⟩
abbrev main_v136 : Ref sig .tc := ⟨.hbm, 187, rfl⟩
abbrev main_v137 : Ref sig .tc := ⟨.hbm, 188, rfl⟩
abbrev main_v138 : Ref sig .tc := ⟨.hbm, 189, rfl⟩
abbrev main_v139 : Ref sig .tc := ⟨.hbm, 190, rfl⟩
abbrev main_v140 : Ref sig .tc := ⟨.hbm, 191, rfl⟩
abbrev main_v141 : Ref sig .tc := ⟨.hbm, 192, rfl⟩
abbrev main_v142 : Ref sig .tc := ⟨.hbm, 193, rfl⟩
abbrev main_v143 : Ref sig .tc := ⟨.hbm, 194, rfl⟩
abbrev main_v144 : Ref sig .tc := ⟨.hbm, 195, rfl⟩
abbrev main_v145 : Ref sig .tc := ⟨.hbm, 196, rfl⟩
abbrev main_v146 : Ref sig .tc := ⟨.hbm, 197, rfl⟩
abbrev main_v147 : Ref sig .tc := ⟨.hbm, 198, rfl⟩
abbrev main_v148 : Ref sig .tc := ⟨.hbm, 199, rfl⟩
abbrev main_v149 : Ref sig .tc := ⟨.hbm, 200, rfl⟩
abbrev main_v150 : Ref sig .tc := ⟨.hbm, 201, rfl⟩
abbrev main_v151 : Ref sig .tc := ⟨.hbm, 202, rfl⟩
abbrev main_v152 : Ref sig .tc := ⟨.hbm, 203, rfl⟩
abbrev main_v153 : Ref sig .tc := ⟨.hbm, 204, rfl⟩
abbrev main_v154 : Ref sig .tc := ⟨.hbm, 205, rfl⟩
abbrev main_v155 : Ref sig .tc := ⟨.hbm, 206, rfl⟩
abbrev main_v156 : Ref sig .tc := ⟨.hbm, 207, rfl⟩
abbrev main_v157 : Ref sig .tc := ⟨.hbm, 208, rfl⟩
abbrev main_v158 : Ref sig .tc := ⟨.hbm, 209, rfl⟩
abbrev main_v159 : Ref sig .tc := ⟨.hbm, 210, rfl⟩
abbrev main_v160 : Ref sig .tc := ⟨.hbm, 211, rfl⟩
abbrev main_v161 : Ref sig .tc := ⟨.hbm, 212, rfl⟩
abbrev main_v162 : Ref sig .tc := ⟨.hbm, 213, rfl⟩
abbrev main_v163 : Ref sig .tc := ⟨.hbm, 214, rfl⟩
abbrev main_v164 : Ref sig .tc := ⟨.hbm, 215, rfl⟩
abbrev main_v165 : Ref sig .tc := ⟨.hbm, 216, rfl⟩
abbrev main_v166 : Ref sig .tc := ⟨.hbm, 217, rfl⟩
abbrev main_v167 : Ref sig .tc := ⟨.hbm, 218, rfl⟩
abbrev main_v168 : Ref sig .tc := ⟨.hbm, 219, rfl⟩
abbrev main_v169 : Ref sig .tc := ⟨.hbm, 220, rfl⟩
abbrev main_v170 : Ref sig .tc := ⟨.hbm, 221, rfl⟩
abbrev main_v171 : Ref sig .tc := ⟨.hbm, 222, rfl⟩
abbrev main_v172 : Ref sig .tc := ⟨.hbm, 223, rfl⟩
abbrev main_v173 : Ref sig .tc := ⟨.hbm, 224, rfl⟩
abbrev main_v174 : Ref sig .tc := ⟨.hbm, 225, rfl⟩
abbrev main_v175 : Ref sig .tc := ⟨.hbm, 226, rfl⟩
abbrev main_v176 : Ref sig .tc := ⟨.hbm, 227, rfl⟩
abbrev main_v177 : Ref sig .tc := ⟨.hbm, 228, rfl⟩
abbrev main_v178 : Ref sig .tc := ⟨.hbm, 229, rfl⟩
abbrev main_v179 : Ref sig .tc := ⟨.hbm, 230, rfl⟩
abbrev main_v180 : Ref sig .tc := ⟨.hbm, 231, rfl⟩
abbrev main_v181 : Ref sig .tc := ⟨.hbm, 232, rfl⟩
abbrev main_v182 : Ref sig .tc := ⟨.hbm, 233, rfl⟩
abbrev main_v183 : Ref sig .tc := ⟨.hbm, 234, rfl⟩
abbrev main_v184 : Ref sig .tc := ⟨.hbm, 235, rfl⟩
abbrev main_v185 : Ref sig .tc := ⟨.hbm, 236, rfl⟩
abbrev main_v186 : Ref sig .tc := ⟨.hbm, 237, rfl⟩
abbrev main_v187 : Ref sig .tc := ⟨.hbm, 238, rfl⟩
abbrev main_v188 : Ref sig .tc := ⟨.hbm, 239, rfl⟩
abbrev main_v189 : Ref sig .tc := ⟨.hbm, 240, rfl⟩
abbrev main_v190 : Ref sig .tc := ⟨.hbm, 241, rfl⟩
abbrev main_v191 : Ref sig .tc := ⟨.hbm, 242, rfl⟩
abbrev main_v192 : Ref sig .tc := ⟨.hbm, 243, rfl⟩
abbrev main_v193 : Ref sig .tc := ⟨.hbm, 244, rfl⟩
abbrev main_v194 : Ref sig .tc := ⟨.hbm, 245, rfl⟩
abbrev main_v195 : Ref sig .tc := ⟨.hbm, 246, rfl⟩
abbrev main_v196 : Ref sig .tc := ⟨.hbm, 247, rfl⟩
abbrev main_v197 : Ref sig .tc := ⟨.hbm, 248, rfl⟩
abbrev main_v198 : Ref sig .tc := ⟨.hbm, 249, rfl⟩
abbrev main_v199 : Ref sig .tc := ⟨.hbm, 250, rfl⟩
abbrev main_v200 : Ref sig .tc := ⟨.hbm, 251, rfl⟩
abbrev main_v201 : Ref sig .tc := ⟨.hbm, 252, rfl⟩
abbrev main_v202 : Ref sig .tc := ⟨.hbm, 253, rfl⟩
abbrev main_v203 : Ref sig .tc := ⟨.hbm, 254, rfl⟩
abbrev main_v204 : Ref sig .tc := ⟨.hbm, 255, rfl⟩
abbrev main_v205 : Ref sig .tc := ⟨.hbm, 256, rfl⟩
abbrev main_v206 : Ref sig .tc := ⟨.hbm, 257, rfl⟩
abbrev main_v207 : Ref sig .tc := ⟨.hbm, 258, rfl⟩
abbrev main_v208 : Ref sig .tc := ⟨.hbm, 259, rfl⟩
abbrev main_v209 : Ref sig .tc := ⟨.hbm, 260, rfl⟩
abbrev main_v210 : Ref sig .tc := ⟨.hbm, 261, rfl⟩
abbrev main_v211 : Ref sig .tc := ⟨.hbm, 262, rfl⟩
abbrev main_v212 : Ref sig .tc := ⟨.hbm, 263, rfl⟩
abbrev main_v213 : Ref sig .tc := ⟨.hbm, 264, rfl⟩
abbrev main_v214 : Ref sig .tc := ⟨.hbm, 265, rfl⟩
abbrev main_v215 : Ref sig .tc := ⟨.hbm, 266, rfl⟩
abbrev main_v216 : Ref sig .tc := ⟨.hbm, 267, rfl⟩
abbrev main_v217 : Ref sig .tc := ⟨.hbm, 268, rfl⟩
abbrev main_v218 : Ref sig .tc := ⟨.hbm, 269, rfl⟩
abbrev main_v219 : Ref sig .tc := ⟨.hbm, 270, rfl⟩
abbrev main_v220 : Ref sig .tc := ⟨.hbm, 271, rfl⟩
abbrev main_v221 : Ref sig .tc := ⟨.hbm, 272, rfl⟩
abbrev main_v222 : Ref sig .tc := ⟨.hbm, 273, rfl⟩
abbrev main_v223 : Ref sig .tc := ⟨.hbm, 274, rfl⟩
abbrev main_v224 : Ref sig .tc := ⟨.hbm, 275, rfl⟩
abbrev main_v225 : Ref sig .tc := ⟨.hbm, 276, rfl⟩
abbrev main_v226 : Ref sig .tc := ⟨.hbm, 277, rfl⟩
abbrev main_v227 : Ref sig .tc := ⟨.hbm, 278, rfl⟩
abbrev main_v228 : Ref sig .tc := ⟨.hbm, 279, rfl⟩
abbrev main_v229 : Ref sig .tc := ⟨.hbm, 280, rfl⟩
abbrev main_v230 : Ref sig .tc := ⟨.hbm, 281, rfl⟩
abbrev main_v231 : Ref sig .tc := ⟨.hbm, 282, rfl⟩
abbrev main_v232 : Ref sig .tc := ⟨.hbm, 283, rfl⟩
abbrev main_v233 : Ref sig .tc := ⟨.hbm, 284, rfl⟩
abbrev main_v234 : Ref sig .tc := ⟨.hbm, 285, rfl⟩
abbrev main_v235 : Ref sig .tc := ⟨.hbm, 286, rfl⟩
abbrev main_v236 : Ref sig .tc := ⟨.hbm, 287, rfl⟩
abbrev main_v237 : Ref sig .tc := ⟨.hbm, 288, rfl⟩
abbrev main_v238 : Ref sig .tc := ⟨.hbm, 289, rfl⟩
abbrev main_v239 : Ref sig .tc := ⟨.hbm, 290, rfl⟩
abbrev main_v240 : Ref sig .tc := ⟨.hbm, 291, rfl⟩
abbrev main_v241 : Ref sig .tc := ⟨.hbm, 292, rfl⟩
abbrev main_v242 : Ref sig .tc := ⟨.hbm, 293, rfl⟩
abbrev main_v243 : Ref sig .tc := ⟨.hbm, 294, rfl⟩
abbrev main_v244 : Ref sig .tc := ⟨.hbm, 295, rfl⟩
abbrev main_v245 : Ref sig .tc := ⟨.hbm, 296, rfl⟩
abbrev main_v246 : Ref sig .tc := ⟨.hbm, 297, rfl⟩
abbrev main_v247 : Ref sig .tc := ⟨.hbm, 298, rfl⟩
abbrev main_v248 : Ref sig .tc := ⟨.hbm, 299, rfl⟩
abbrev main_v249 : Ref sig .tc := ⟨.hbm, 300, rfl⟩
abbrev main_v250 : Ref sig .tc := ⟨.hbm, 301, rfl⟩
abbrev main_v251 : Ref sig .tc := ⟨.hbm, 302, rfl⟩
abbrev main_v252 : Ref sig .tc := ⟨.hbm, 303, rfl⟩
abbrev main_v253 : Ref sig .tc := ⟨.hbm, 304, rfl⟩
abbrev main_v254 : Ref sig .tc := ⟨.hbm, 305, rfl⟩
abbrev main_v255 : Ref sig .tc := ⟨.hbm, 306, rfl⟩
abbrev main_v256 : Ref sig .tc := ⟨.hbm, 307, rfl⟩
abbrev main_v257 : Ref sig .tc := ⟨.hbm, 308, rfl⟩
abbrev main_v258 : Ref sig .tc := ⟨.hbm, 309, rfl⟩
abbrev main_v259 : Ref sig .tc := ⟨.hbm, 310, rfl⟩
abbrev main_v260 : Ref sig .tc := ⟨.hbm, 311, rfl⟩
abbrev main_v261 : Ref sig .tc := ⟨.hbm, 312, rfl⟩
abbrev main_v262 : Ref sig .tc := ⟨.hbm, 313, rfl⟩
abbrev main_v263 : Ref sig .tc := ⟨.hbm, 314, rfl⟩
abbrev main_v264 : Ref sig .tc := ⟨.hbm, 315, rfl⟩
abbrev main_v265 : Ref sig .tc := ⟨.hbm, 316, rfl⟩
abbrev main_v266 : Ref sig .tc := ⟨.hbm, 317, rfl⟩
abbrev main_v267 : Ref sig .tc := ⟨.hbm, 318, rfl⟩
abbrev main_v268 : Ref sig .tc := ⟨.hbm, 319, rfl⟩
abbrev main_v269 : Ref sig .tc := ⟨.hbm, 320, rfl⟩
abbrev main_v270 : Ref sig .tc := ⟨.hbm, 321, rfl⟩
abbrev main_v271 : Ref sig .tc := ⟨.hbm, 322, rfl⟩
abbrev main_v272 : Ref sig .tc := ⟨.hbm, 323, rfl⟩
abbrev main_v273 : Ref sig .tc := ⟨.hbm, 324, rfl⟩
abbrev main_v274 : Ref sig .tc := ⟨.hbm, 325, rfl⟩
abbrev main_v275 : Ref sig .tc := ⟨.hbm, 326, rfl⟩
abbrev main_v276 : Ref sig .tc := ⟨.hbm, 327, rfl⟩
abbrev main_v277 : Ref sig .tc := ⟨.hbm, 328, rfl⟩
abbrev main_v278 : Ref sig .tc := ⟨.hbm, 329, rfl⟩
abbrev main_v279 : Ref sig .tc := ⟨.hbm, 330, rfl⟩
abbrev main_v280 : Ref sig .tc := ⟨.hbm, 331, rfl⟩
abbrev main_v281 : Ref sig .tc := ⟨.hbm, 332, rfl⟩
abbrev main_v282 : Ref sig .tc := ⟨.hbm, 333, rfl⟩
abbrev main_v283 : Ref sig .tc := ⟨.hbm, 334, rfl⟩
abbrev main_v284 : Ref sig .tc := ⟨.hbm, 335, rfl⟩
abbrev main_v285 : Ref sig .tc := ⟨.hbm, 336, rfl⟩
abbrev main_v286 : Ref sig .tc := ⟨.hbm, 337, rfl⟩
abbrev main_v287 : Ref sig .tc := ⟨.hbm, 338, rfl⟩
abbrev main_v288 : Ref sig .tc := ⟨.hbm, 339, rfl⟩
abbrev main_v289 : Ref sig .tc := ⟨.hbm, 340, rfl⟩
abbrev main_v290 : Ref sig .tc := ⟨.hbm, 341, rfl⟩
abbrev main_v291 : Ref sig .tc := ⟨.hbm, 342, rfl⟩
abbrev main_v292 : Ref sig .tc := ⟨.hbm, 343, rfl⟩
abbrev main_v293 : Ref sig .tc := ⟨.hbm, 344, rfl⟩
abbrev main_v294 : Ref sig .tc := ⟨.hbm, 345, rfl⟩
abbrev main_v295 : Ref sig .tc := ⟨.hbm, 346, rfl⟩
abbrev main_v296 : Ref sig .tc := ⟨.hbm, 347, rfl⟩
abbrev main_v297 : Ref sig .tc := ⟨.hbm, 348, rfl⟩
abbrev main_v298 : Ref sig .tc := ⟨.hbm, 349, rfl⟩
abbrev main_v299 : Ref sig .tc := ⟨.hbm, 350, rfl⟩
abbrev main_v300 : Ref sig .tc := ⟨.hbm, 351, rfl⟩
abbrev main_v301 : Ref sig .tc := ⟨.hbm, 352, rfl⟩
abbrev main_v302 : Ref sig .tc := ⟨.hbm, 353, rfl⟩
abbrev main_v303 : Ref sig .tc := ⟨.hbm, 354, rfl⟩
abbrev main_v304 : Ref sig .tc := ⟨.hbm, 355, rfl⟩
abbrev main_v305 : Ref sig .tc := ⟨.hbm, 356, rfl⟩
abbrev main_v306 : Ref sig .tc := ⟨.hbm, 357, rfl⟩
abbrev main_v307 : Ref sig .tc := ⟨.hbm, 358, rfl⟩
abbrev main_v308 : Ref sig .tc := ⟨.hbm, 359, rfl⟩
abbrev main_v309 : Ref sig .tc := ⟨.hbm, 360, rfl⟩
abbrev main_v310 : Ref sig .tc := ⟨.hbm, 361, rfl⟩
abbrev main_v311 : Ref sig .tc := ⟨.hbm, 362, rfl⟩
abbrev main_v312 : Ref sig .tc := ⟨.hbm, 363, rfl⟩
abbrev main_v313 : Ref sig .tc := ⟨.hbm, 364, rfl⟩
abbrev main_v314 : Ref sig .tc := ⟨.hbm, 365, rfl⟩
abbrev main_v315 : Ref sig .tc := ⟨.hbm, 366, rfl⟩
abbrev main_v316 : Ref sig .tc := ⟨.hbm, 367, rfl⟩
abbrev main_v317 : Ref sig .tc := ⟨.hbm, 368, rfl⟩
abbrev main_v318 : Ref sig .tc := ⟨.hbm, 369, rfl⟩
abbrev main_v319 : Ref sig .tc := ⟨.hbm, 370, rfl⟩
abbrev main_v320 : Ref sig .tc := ⟨.hbm, 371, rfl⟩
abbrev main_v321 : Ref sig .tc := ⟨.hbm, 372, rfl⟩
abbrev main_v322 : Ref sig .tc := ⟨.hbm, 373, rfl⟩
abbrev main_v323 : Ref sig .tc := ⟨.hbm, 374, rfl⟩
abbrev main_v324 : Ref sig .tc := ⟨.hbm, 375, rfl⟩
abbrev main_v325 : Ref sig .tc := ⟨.hbm, 376, rfl⟩
abbrev main_v326 : Ref sig .tc := ⟨.hbm, 377, rfl⟩
abbrev main_v327 : Ref sig .tc := ⟨.hbm, 378, rfl⟩
abbrev main_v328 : Ref sig .tc := ⟨.hbm, 379, rfl⟩
abbrev main_v329 : Ref sig .tc := ⟨.hbm, 380, rfl⟩
abbrev main_v330 : Ref sig .tc := ⟨.hbm, 381, rfl⟩
abbrev main_v331 : Ref sig .tc := ⟨.hbm, 382, rfl⟩
abbrev main_v332 : Ref sig .tc := ⟨.hbm, 383, rfl⟩
abbrev main_v333 : Ref sig .tc := ⟨.hbm, 384, rfl⟩
abbrev main_v334 : Ref sig .tc := ⟨.hbm, 385, rfl⟩
abbrev main_v335 : Ref sig .tc := ⟨.hbm, 386, rfl⟩
abbrev main_v336 : Ref sig .tc := ⟨.hbm, 387, rfl⟩
abbrev main_v337 : Ref sig .tc := ⟨.hbm, 388, rfl⟩
abbrev main_v338 : Ref sig .tc := ⟨.hbm, 389, rfl⟩
abbrev main_v339 : Ref sig .tc := ⟨.hbm, 390, rfl⟩
abbrev main_v340 : Ref sig .tc := ⟨.hbm, 391, rfl⟩
abbrev main_v341 : Ref sig .tc := ⟨.hbm, 392, rfl⟩
abbrev main_cst_32 : Ref sig .tc := ⟨.hbm, 393, rfl⟩
abbrev main_call1_v0 : Ref sig .tc := ⟨.hbm, 394, rfl⟩
abbrev main_call1_v1 : Ref sig .tc := ⟨.hbm, 395, rfl⟩
abbrev main_call1_v2 : Ref sig .tc := ⟨.hbm, 396, rfl⟩
abbrev main_v342 : Ref sig .tc := ⟨.hbm, 397, rfl⟩
abbrev main_values : Ref sig .tc := ⟨.hbm, 398, rfl⟩
abbrev main_indices : Ref sig .tc := ⟨.hbm, 399, rfl⟩
abbrev main_c_33 : Ref sig .tc := ⟨.hbm, 400, rfl⟩
abbrev main_v343 : Ref sig .tc := ⟨.hbm, 401, rfl⟩
abbrev main_v344 : Ref sig .tc := ⟨.hbm, 402, rfl⟩
abbrev main_c_34 : Ref sig .tc := ⟨.hbm, 403, rfl⟩
abbrev main_v345 : Ref sig .tc := ⟨.hbm, 404, rfl⟩
abbrev main_v346 : Ref sig .tc := ⟨.hbm, 405, rfl⟩
abbrev main_v347 : Ref sig .tc := ⟨.hbm, 406, rfl⟩
abbrev main_v348 : Ref sig .tc := ⟨.hbm, 407, rfl⟩
abbrev main_v349 : Ref sig .tc := ⟨.hbm, 408, rfl⟩
abbrev main_cst_35 : Ref sig .tc := ⟨.hbm, 409, rfl⟩
abbrev main_v350 : Ref sig .tc := ⟨.hbm, 410, rfl⟩
abbrev main_cst_36 : Ref sig .tc := ⟨.hbm, 411, rfl⟩
abbrev main_v351 : Ref sig .tc := ⟨.hbm, 412, rfl⟩
abbrev main_v352 : Ref sig .tc := ⟨.hbm, 413, rfl⟩
abbrev main_v353 : Ref sig .tc := ⟨.hbm, 414, rfl⟩
abbrev main_v354 : Ref sig .tc := ⟨.hbm, 415, rfl⟩
abbrev main_v355 : Ref sig .tc := ⟨.hbm, 416, rfl⟩
abbrev main_v356 : Ref sig .tc := ⟨.hbm, 417, rfl⟩
abbrev main_cst_37 : Ref sig .tc := ⟨.hbm, 418, rfl⟩
abbrev main_v357 : Ref sig .tc := ⟨.hbm, 419, rfl⟩
abbrev main_v358 : Ref sig .tc := ⟨.hbm, 420, rfl⟩
abbrev main_v359 : Ref sig .tc := ⟨.hbm, 421, rfl⟩
abbrev main_v360 : Ref sig .tc := ⟨.hbm, 422, rfl⟩
abbrev main_v361 : Ref sig .tc := ⟨.hbm, 423, rfl⟩
abbrev main_v362 : Ref sig .tc := ⟨.hbm, 424, rfl⟩
abbrev main_v363 : Ref sig .tc := ⟨.hbm, 425, rfl⟩
abbrev main_cst_38 : Ref sig .tc := ⟨.hbm, 426, rfl⟩
abbrev main_v364 : Ref sig .tc := ⟨.hbm, 427, rfl⟩
abbrev main_v365 : Ref sig .tc := ⟨.hbm, 428, rfl⟩
abbrev main_v366 : Ref sig .tc := ⟨.hbm, 429, rfl⟩
abbrev main_v367 : Ref sig .tc := ⟨.hbm, 430, rfl⟩
abbrev main_v368 : Ref sig .tc := ⟨.hbm, 431, rfl⟩
abbrev main_v369 : Ref sig .tc := ⟨.hbm, 432, rfl⟩
abbrev main_v370 : Ref sig .tc := ⟨.hbm, 433, rfl⟩
abbrev main_v371 : Ref sig .tc := ⟨.hbm, 434, rfl⟩
abbrev main_cst_39 : Ref sig .tc := ⟨.hbm, 435, rfl⟩
abbrev main_v372 : Ref sig .tc := ⟨.hbm, 436, rfl⟩
abbrev main_v373 : Ref sig .tc := ⟨.hbm, 437, rfl⟩
abbrev main_cst_40 : Ref sig .tc := ⟨.hbm, 438, rfl⟩
abbrev main_v374 : Ref sig .tc := ⟨.hbm, 439, rfl⟩
abbrev main_v375 : Ref sig .tc := ⟨.hbm, 440, rfl⟩
abbrev main_cst_41 : Ref sig .tc := ⟨.hbm, 441, rfl⟩
abbrev main_v376 : Ref sig .tc := ⟨.hbm, 442, rfl⟩
abbrev main_v377 : Ref sig .tc := ⟨.hbm, 443, rfl⟩

abbrev nD : Nat := 1
abbrev τ : Topo := Topo.v7x

variable {F : FTy → Type} [FloatOps F]
-- ==== Proof.Ideal.Xh.lean ====
module

public import proofs.«01_k».proof.Proof.Gen.KernelIdeal.Skeleton
public import Idealize.ShloMosaic.Lib.Exec
public import Idealize.ShloMosaic.Lib.Tactic
public import Idealize.ShloMosaic.Lib.Pipeline.Kit
public import Idealize.ShloMosaic.Lib.Pipeline.FrameBody
public import Idealize.ShloMosaic.Lib.Pipeline.Value
public import Idealize.ShloMosaic.Lib.VecWindow
public import Idealize.ShloMosaic.Lib.Ring
public import Idealize.ShloMosaic.Lib.ValueIdxCore

@[expose] public section

set_option maxRecDepth 8192

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-! # The recurrence kernel: its counted loop by explicit states, and the body's result -/

/-- The block of inputs read by trip `k`. -/
def xhBlk (X : Vec F S4096x256 .f32) (k : Fin k0_t1_loop.trips) : Vec F S128x256 .f32 :=
  View.ld (Val := Elt F) X (Rect.unit (s := S4096x256) (k0_off1 k) S128x256.size (k0_off1_inb k))

/-- The carried state before trip `n`. -/
def xhSt (wh : Vec F S256x256 .f32) (X : Vec F S4096x256 .f32) (init : FVec F S128x256 .f32) : ℕ → FVec F S128x256 .f32
  | 0 => init
  | n + 1 => if h : n < k0_t1_loop.trips then k0_pay4 wh (xhSt wh X init n) (xhBlk X ⟨n, h⟩) else xhSt wh X init n

/-- A trip's successor state. -/
theorem xhSt_succ (wh : Vec F S256x256 .f32) (X : Vec F S4096x256 .f32) (init : FVec F S128x256 .f32) (k : Fin k0_t1_loop.trips) :
    xhSt wh X init (k.val + 1) = k0_pay4 wh (xhSt wh X init k.val) (xhBlk X k) := by
  rw [xhSt]; exact dif_pos k.isLt

/-- What trip `k` stores. -/
def xhPc (wh : Vec F S256x256 .f32) (X : Vec F S4096x256 .f32) (init : FVec F S128x256 .f32) (k : Fin k0_t1_loop.trips) :
    View.Piece (Elt F) S3968x256 .f32 :=
  ⟨Rect.unit (s := S3968x256) (k0_off2 k) S128x256.size (k0_off2_inb k), k0_pay5 wh (xhSt wh X init k.val) (xhBlk X k)⟩

/-- The stores of the trips before `n`, last first. -/
def xhPcs (wh : Vec F S256x256 .f32) (X : Vec F S4096x256 .f32) (init : FVec F S128x256 .f32) : ℕ → List (View.Piece (Elt F) S3968x256 .f32)
  | 0 => []
  | n + 1 => if h : n < k0_t1_loop.trips then xhPc wh X init ⟨n, h⟩ :: xhPcs wh X init n else xhPcs wh X init n

/-- A trip's successor list. -/
theorem xhPcs_succ (wh : Vec F S256x256 .f32) (X : Vec F S4096x256 .f32) (init : FVec F S128x256 .f32) (k : Fin k0_t1_loop.trips) :
    xhPcs wh X init (k.val + 1) = xhPc wh X init k :: xhPcs wh X init k.val := by
  rw [xhPcs]; exact dif_pos k.isLt

/-- Every stored piece is some trip's. -/
theorem xhPcs_mem (wh : Vec F S256x256 .f32) (X : Vec F S4096x256 .f32) (init : FVec F S128x256 .f32) (n : ℕ) :
    ∀ p ∈ xhPcs wh X init n, ∃ k : Fin k0_t1_loop.trips, p = xhPc wh X init k := by
  induction n with
  | zero => intro p hp; cases hp
  | succ n ih =>
    intro p hp
    rw [xhPcs] at hp
    split at hp
    · next h =>
      rcases List.mem_cons.mp hp with rfl | hp
      · exact ⟨⟨n, h⟩, rfl⟩
      · exact ih p hp
    · exact ih p hp

/-- Every trip before `n` has its piece in the list. -/
theorem mem_xhPcs (wh : Vec F S256x256 .f32) (X : Vec F S4096x256 .f32) (init : FVec F S128x256 .f32) (k : Fin k0_t1_loop.trips) (n : ℕ)
    (hk : k.val < n) : xhPc wh X init k ∈ xhPcs wh X init n := by
  induction n with
  | zero => omega
  | succ n ih =>
    rcases Nat.lt_succ_iff_lt_or_eq.mp hk with h | h
    · rw [xhPcs]; split
      · exact List.mem_cons_of_mem _ (ih h)
      · exact ih h
    · subst h; rw [xhPcs_succ]; exact List.mem_cons_self

/-- All the states, one after the other, as the scratch holds them after the loop. -/
def xhHist (wh : Vec F S256x256 .f32) (X : Vec F S4096x256 .f32) (init : FVec F S128x256 .f32) : Vec F S3968x256 .f32 :=
  fun y => xhSt wh X init ((y 0).val / 128 + 1) (ValueIdx.ix2 ⟨(y 0).val % 128, Nat.mod_lt _ (by decide)⟩ (y 1))

/-- The loop runs thirty-one times. -/
theorem xhTrips : k0_t1_loop.trips = 31 := by decide +kernel

/-- Over any contents, the loop's stores leave the states. -/
theorem xh_read {sp : Space} (v : View sig .tc sp S3968x256 .f32) (f : v.ty.Contents (Elt F)) (wh : Vec F S256x256 .f32) (X : Vec F S4096x256 .f32)
    (init : FVec F S128x256 .f32) :
    v.read (Elt F) (v.writes (Elt F) f (xhPcs wh X init k0_t1_loop.trips)) = xhHist wh X init := by
  funext y
  refine View.read_writes_apply_of_pieces v f (xhHist wh X init) _ ?_ y ?_
  · intro p hp x
    obtain ⟨k, rfl⟩ := xhPcs_mem _ _ _ _ p hp
    have e0 : (((xhPc wh X init k).1.emb x) 0).val = 128 * k.val + (x 0).val := by
      show (k0_off2 k) 0 + 1 * (x 0).val = _
      rw [k0_off2_eq]; simp
    have e1 : (((xhPc wh X init k).1.emb x) 1) = x 1 := by
      apply Fin.ext
      show (k0_off2 k) 1 + 1 * (x 1).val = _
      rw [k0_off2_eq]; simp
    have hx : (x 0).val < 128 := (x 0).isLt
    unfold xhHist
    have h1 : (((xhPc wh X init k).1.emb x) 0).val / 128 = k.val := by rw [e0]; omega
    have h2 : (((xhPc wh X init k).1.emb x) 0).val % 128 = (x 0).val := by rw [e0]; omega
    rw [h1, xhSt_succ]
    show k0_pay5 wh _ _ x = _
    unfold k0_pay5
    rw [shapeCast_self]
    congr 1
    funext a
    refine Fin.cases ?_ (fun b => ?_) a
    · exact Fin.ext h2.symm
    · have : b = 0 := Subsingleton.elim _ _
      subst this
      exact e1.symm
  · have hy0 : (y 0).val < 3968 := (y 0).isLt
    have hy1 : (y 1).val < 256 := (y 1).isLt
    have hk : (y 0).val / 128 < k0_t1_loop.trips := by rw [xhTrips]; omega
    refine ⟨_, mem_xhPcs wh X init ⟨_, hk⟩ _ hk, ?_⟩
    show y ∈ (Rect.unit (s := S3968x256) (k0_off2 ⟨_, hk⟩) S128x256.size (k0_off2_inb _)).set
    rw [Rect.mem_set_unit, k0_off2_eq]
    intro a
    refine Fin.cases ?_ (fun b => ?_) a
    · show 128 * ((y 0).val / 128) ≤ (y 0).val ∧ (y 0).val < 128 * ((y 0).val / 128) + 128
      omega
    · have : b = 0 := Subsingleton.elim _ _
      subst this
      show 0 ≤ (y 1).val ∧ (y 1).val < 0 + 256
      omega

/-- The loop's invariant before trip `k`. -/
abbrev xhInv (c : Dev nD) (arg9 : Memref sig .tc .vmem S4096x256 .f32) (arg10 : Memref sig .tc .vmem S3968x256 .f32) (v27 : Vec F S256x256 .f32)
    (X_arg9 : BufTy.Contents (Elt F) arg9.view.ty) (G_arg10 : BufTy.Contents (Elt F) arg10.view.ty) (init : FVec F S128x256 .f32) (k : ℕ) (acc : FVec F S128x256 .f32) : sProp 𝕄G :=
  iprop((arg9.view.loc (c : Thread nD τ) ↦[arg9.view.set]{fullShare} X_arg9) ∗ (∃ f, (arg10.view.loc (c : Thread nD τ) ↦[arg10.view.set]{fullShare} f) ∗ ⌜f = arg10.view.writes (Elt F) G_arg10 (xhPcs v27 (arg9.view.read (Elt F) X_arg9) init k)⌝) ∗ ⌜acc = xhSt v27 (arg9.view.read (Elt F) X_arg9) init k⌝)

/-- One trip, from the invariant to the invariant. -/
theorem xhTrip (𝒱 : Variants) (c : Dev nD) (bd : Option 𝒱.V) (arg0 : Memref sig .tc .vmem S4096x256 .f32) (harg0 : arg0.IsWhole) (arg1 : Memref sig .tc .vmem S4096x256 .f32) (harg1 : arg1.IsWhole) (arg2 : Memref sig .tc .vmem S4096x1 .f32) (harg2 : arg2.IsWhole) (arg3 : Memref sig .tc .vmem S256x256 .f32) (harg3 : arg3.IsWhole) (arg4 : Memref sig .tc .vmem S256x256 .f32) (harg4 : arg4.IsWhole) (arg5 : Memref sig .tc .vmem S2x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S3968x1 .f32) (harg8 : arg8.IsWhole) (arg9 : Memref sig .tc .vmem S4096x256 .f32) (harg9 : arg9.IsWhole) (arg10 : Memref sig .tc .vmem S3968x256 .f32) (harg10 : arg10.IsWhole) (v27 : Vec F S256x256 .f32) (X_arg9 : BufTy.Contents (Elt F) arg9.view.ty) (G_arg10 : BufTy.Contents (Elt F) arg10.view.ty) (init : FVec F S128x256 .f32) (k : Fin k0_t1_loop.trips) (E : Set ℕ) (acc : FVec F S128x256 .f32) :
    xhInv c arg9 arg10 v27 X_arg9 G_arg10 init k.val acc
      ⊢ wp frame (wpE (defs₀ (F := F)) 𝒱 (c : Thread nD τ) bd) E (k0_t1_body (F := F) arg0 harg0 arg1 harg1 arg2 harg2 arg3 harg3 arg4 harg4 arg5 harg5 arg6 harg6 arg7 harg7 arg8 harg8 arg9 harg9 arg10 harg10 v27 k acc)
          (fun yld => xhInv c arg9 arg10 v27 X_arg9 G_arg10 init (k.val + 1) yld) := by
  have hk : k.val < 31 := Nat.lt_of_lt_of_le k.isLt k0_t1_abs.2.1
  unfold k0_t1_body
  iintro ⟨HR_arg9, ⟨%f_arg10, HW_arg10, %h_arg10⟩, %h_acc⟩
  subst h_acc
  sl_exec
  sl_step
  isplitl [HR_arg9]; · iexact HR_arg9
  rw [xhSt_succ, xhPcs_succ]
  isplitl [HW_arg10]
  · iexists _; isplitl [HW_arg10]; · iexact HW_arg10
    ipureintro; rw [h_arg10]; rfl
  ipureintro; rfl

/-- The state before the first step is the initial one. -/
theorem xhSt_zero (wh : Vec F S256x256 .f32) (X : Vec F S4096x256 .f32) (init : FVec F S128x256 .f32) : xhSt wh X init 0 = init := rfl

set_option warn.classDefReducibility false in
/-- The loop by its invariant. -/
@[sl_loop] def xhLoop (𝒱 : Variants) (c : Dev nD) (bd : Option 𝒱.V) (E : Set ℕ) (arg0 : Memref sig .tc .vmem S4096x256 .f32) (harg0 : arg0.IsWhole) (arg1 : Memref sig .tc .vmem S4096x256 .f32) (harg1 : arg1.IsWhole) (arg2 : Memref sig .tc .vmem S4096x1 .f32) (harg2 : arg2.IsWhole) (arg3 : Memref sig .tc .vmem S256x256 .f32) (harg3 : arg3.IsWhole) (arg4 : Memref sig .tc .vmem S256x256 .f32) (harg4 : arg4.IsWhole) (arg5 : Memref sig .tc .vmem S2x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S3968x1 .f32) (harg8 : arg8.IsWhole) (arg9 : Memref sig .tc .vmem S4096x256 .f32) (harg9 : arg9.IsWhole) (arg10 : Memref sig .tc .vmem S3968x256 .f32) (harg10 : arg10.IsWhole) (v27 : Vec F S256x256 .f32) (X_arg9 : BufTy.Contents (Elt F) arg9.view.ty) (G_arg10 : BufTy.Contents (Elt F) arg10.view.ty) (init : FVec F S128x256 .f32) :
    Idealize.ShloMosaic.LoopInv (M := MT nD τ sig Unit (Elt F) ℕ (UR sig nD τ) ℕ) Idealize.ShloMosaic.frame (wpE defs₀ 𝒱 (c : Thread nD τ) bd) E
      k0_t1_loop.lb k0_t1_loop.ub k0_t1_loop.st k0_t1_ok init (k0_t1_body (F := F) arg0 harg0 arg1 harg1 arg2 harg2 arg3 harg3 arg4 harg4 arg5 harg5 arg6 harg6 arg7 harg7 arg8 harg8 arg9 harg9 arg10 harg10 v27) where
  inv := xhInv c arg9 arg10 v27 X_arg9 G_arg10 init
  step k acc := xhTrip 𝒱 c bd arg0 harg0 arg1 harg1 arg2 harg2 arg3 harg3 arg4 harg4 arg5 harg5 arg6 harg6 arg7 harg7 arg8 harg8 arg9 harg9 arg10 harg10 v27 X_arg9 G_arg10 init k E acc

/-- The inputs of the recurrence, from the kernel's operands. -/
def xhX (x0 : Vec F S4096x256 .f32) (x1 : Vec F S4096x256 .f32) (x2 : Vec F S4096x1 .f32) (x3 : Vec F S256x256 .f32) (x4 : Vec F S256x256 .f32) (x5 : Vec F S2x256 .f32) : Vec F S4096x256 .f32 :=
  k0_pay2 (View.ld (Val := Elt F) x5 (Rect.unit (s := S2x256) ![0, 0] S1x256.size inb_S2x256_S1x256_0_0)) (View.ld (Val := Elt F) x5 (Rect.unit (s := S2x256) ![1, 0] S1x256.size inb_S2x256_S1x256_1_0)) x0 x3 x1 x4 x2

/-- The inputs' equation from the operands' equations. -/
theorem xhX_congr {a a' b b' : Vec F S1x256 .f32} {x0 x0' : Vec F S4096x256 .f32} {x3 x3' : Vec F S256x256 .f32} {x1 x1' : Vec F S4096x256 .f32}
    {x4 x4' : Vec F S256x256 .f32} {x2 x2' : Vec F S4096x1 .f32} (ha : a = a') (hb : b = b') (h0 : x0 = x0') (h3 : x3 = x3') (h1 : x1 = x1') (h4 : x4 = x4') (h2 : x2 = x2') :
    k0_pay2 a b x0 x3 x1 x4 x2 = k0_pay2 a' b' x0' x3' x1' x4' x2' := by
  subst ha hb h0 h3 h1 h4 h2; rfl

/-- What the kernel leaves in its output. -/
def xhOut (x0 : Vec F S4096x256 .f32) (x1 : Vec F S4096x256 .f32) (x2 : Vec F S4096x1 .f32) (x3 : Vec F S256x256 .f32) (x4 : Vec F S256x256 .f32) (x5 : Vec F S2x256 .f32) (x6 : Vec F S256x256 .f32) (x7 : Vec F S1x256 .f32) : Vec F S3968x1 .f32 :=
  k0_pay1 (xhHist x6 (xhX x0 x1 x2 x3 x4 x5) (k0_pay3 (F := F))) x7

set_option maxHeartbeats 1000000 in
/-- The body's triple: on whole memrefs, the inputs kept, the output left at `xhOut`. -/
theorem xhBody (c : Dev nD) (arg0 : Memref sig .tc .vmem S4096x256 .f32) (harg0 : arg0.IsWhole) (arg1 : Memref sig .tc .vmem S4096x256 .f32) (harg1 : arg1.IsWhole) (arg2 : Memref sig .tc .vmem S4096x1 .f32) (harg2 : arg2.IsWhole) (arg3 : Memref sig .tc .vmem S256x256 .f32) (harg3 : arg3.IsWhole) (arg4 : Memref sig .tc .vmem S256x256 .f32) (harg4 : arg4.IsWhole) (arg5 : Memref sig .tc .vmem S2x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S3968x1 .f32) (harg8 : arg8.IsWhole) (arg9 : Memref sig .tc .vmem S4096x256 .f32) (harg9 : arg9.IsWhole) (arg10 : Memref sig .tc .vmem S3968x256 .f32) (harg10 : arg10.IsWhole) (x0 : Vec F S4096x256 .f32) (x1 : Vec F S4096x256 .f32) (x2 : Vec F S4096x1 .f32) (x3 : Vec F S256x256 .f32) (x4 : Vec F S256x256 .f32) (x5 : Vec F S2x256 .f32) (x6 : Vec F S256x256 .f32) (x7 : Vec F S1x256 .f32) (E : Set ℕ) (K : PUnit → sProp 𝕄G) :
        iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare (xhOut x0 x1 x2 x3 x4 x5 x6 x7) ∗ (∃ d, owns (c : Thread nD τ) arg9 fullShare d) ∗ (∃ d, owns (c : Thread nD τ) arg10 fullShare d)) -∗ K ⟨⟩))
          ⊢ wp frame (wpE (defs₀ (F := F)) Variants.none c none) E (cc0__xh_kernel arg0 harg0 arg1 harg1 arg2 harg2 arg3 harg3 arg4 harg4 arg5 harg5 arg6 harg6 arg7 harg7 arg8 harg8 arg9 harg9 arg10 harg10) K := by
    simp only [cc0__xh_kernel_eq_skeleton]; unfold cc0__xh_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%ds0, %fs0, -, HS0⟩, ⟨%ds1, %fs1, -, HS1⟩, Hk⟩
    obtain rfl := harg0.eq_unread hf0; obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7
    sl_exec
    sl_step
    iapply Hk
    isplitl [H0]
    · iexists _; isplitr; · ipureintro; exact harg0.read_unread _
      iexact H0
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; swap; · iexact H8
      ipureintro
      refine (View.read_writes_full arg8.view f8 _ _ []).trans ?_
      unfold xhBody.sl.v xhBody.sl.HS0_1
      refine congrArg₂ (k0_pay1 (F := F)) ?_ ((View.readAt_full arg7.view _ _).trans hf7)
      unfold View.readCov
      refine (View.readAt_full arg10.view _ _).trans ?_
      refine (xh_read arg10.view _ _ _ _).trans ?_
      refine congrArg₂ (fun a b => xhHist a b (k0_pay3 (F := F))) ((View.readAt_full arg6.view _ _).trans hf6) ?_
      refine (View.read_writes_full arg9.view _ _ _ []).trans ?_
      have h5 (r : Rect S2x256) : View.readAt (Elt F) arg5.view r.toLoadRect (harg5.unread x5) = View.ld (Val := Elt F) x5 r :=
        congrArg (fun z => View.ld (Val := Elt F) z r) hf5
      refine xhX_congr (h5 _) (h5 _) ((View.readAt_full arg0.view _ _).trans hf0) ((View.readAt_full arg3.view _ _).trans hf3)
        ((View.readAt_full arg1.view _ _).trans hf1) ((View.readAt_full arg4.view _ _).trans hf4) ((View.readAt_full arg2.view _ _).trans hf2)
    isplitl [HS0]
    · iexists _, _; isplitr; swap; · iexact HS0
      ipureintro; rfl
    iexists _, _; isplitr; swap; · iexact HS1
    ipureintro; rfl

end Cert.KernelIdeal.Gen
end
-- ==== Proof.Ideal.Att.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The attention kernel's body, run once: the pieces it stores and that they cover the block -/

set_option maxHeartbeats 1040000 in
/-- What the body's stores leave in each output's staging memref, as pieces (last first), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean); the pieces are
    the witness that run finds (assigned when `iexact` hands the buffer to the continuation). -/
noncomputable def kernelRun1_A (c : Dev nD) (i : grid1.Coords) (arg1 : Memref sig .tc .vmem S32x8x256 .f32) (harg1 : arg1.IsWhole) (arg2 : Memref sig .tc .vmem S32x8x256 .f32) (harg2 : arg2.IsWhole) (arg3 : Memref sig .tc .vmem S8x31 .f32) (harg3 : arg3.IsWhole) (arg4 : Memref sig .tc .vmem S1x256 .f32) (harg4 : arg4.IsWhole) (arg5 : Memref sig .tc .vmem S8x32 .f32) (harg5 : arg5.IsWhole)
    (x0 : Vec F S32x8x256 .f32) (x1 : Vec F S32x8x256 .f32) (x2 : Vec F S8x31 .f32) (x3 : Vec F S1x256 .f32) :
    { L4 : List (View.Piece (Elt F) S8x32 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4)) -∗ K ⟨⟩))
          ⊢ wp frame (wpE (defs₀ (F := F)) Variants.none c none) E (cc1__att_kernel i arg1 harg1 arg2 harg2 arg3 harg3 arg4 harg4 arg5 harg5) K } := by
  refine ⟨?_, fun E K => ?run⟩
  case run =>
    simp only [cc1__att_kernel_eq_skeleton]; unfold cc1__att_kernel_skel
    simp only [k1_part90_eq_skeleton, k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton, k1_part20_eq_skeleton, k1_part21_eq_skeleton, k1_part22_eq_skeleton, k1_part23_eq_skeleton, k1_part24_eq_skeleton, k1_part25_eq_skeleton, k1_part26_eq_skeleton, k1_part27_eq_skeleton, k1_part28_eq_skeleton, k1_part29_eq_skeleton, k1_part30_eq_skeleton, k1_part31_eq_skeleton, k1_part32_eq_skeleton, k1_part33_eq_skeleton, k1_part34_eq_skeleton, k1_part35_eq_skeleton, k1_part36_eq_skeleton, k1_part37_eq_skeleton, k1_part38_eq_skeleton, k1_part39_eq_skeleton, k1_part40_eq_skeleton, k1_part41_eq_skeleton, k1_part42_eq_skeleton, k1_part43_eq_skeleton, k1_part44_eq_skeleton, k1_part45_eq_skeleton, k1_part46_eq_skeleton, k1_part47_eq_skeleton, k1_part48_eq_skeleton, k1_part49_eq_skeleton, k1_part50_eq_skeleton, k1_part51_eq_skeleton, k1_part52_eq_skeleton, k1_part53_eq_skeleton, k1_part54_eq_skeleton, k1_part55_eq_skeleton, k1_part56_eq_skeleton, k1_part57_eq_skeleton, k1_part58_eq_skeleton, k1_part59_eq_skeleton, k1_part60_eq_skeleton, k1_part91_eq_skeleton, k1_part61_eq_skeleton, k1_part62_eq_skeleton, k1_part63_eq_skeleton, k1_part64_eq_skeleton, k1_part65_eq_skeleton, k1_part66_eq_skeleton, k1_part67_eq_skeleton, k1_part68_eq_skeleton, k1_part69_eq_skeleton, k1_part70_eq_skeleton, k1_part71_eq_skeleton, k1_part72_eq_skeleton, k1_part73_eq_skeleton, k1_part74_eq_skeleton, k1_part75_eq_skeleton, k1_part76_eq_skeleton, k1_part77_eq_skeleton, k1_part78_eq_skeleton, k1_part79_eq_skeleton, k1_part80_eq_skeleton, k1_part81_eq_skeleton, k1_part82_eq_skeleton, k1_part83_eq_skeleton, k1_part84_eq_skeleton, k1_part85_eq_skeleton, k1_part86_eq_skeleton, k1_part87_eq_skeleton, k1_part88_eq_skeleton, k1_part89_eq_skeleton]
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg1.eq_unread hf0; obtain rfl := harg2.eq_unread hf1; obtain rfl := harg3.eq_unread hf2; obtain rfl := harg4.eq_unread hf3
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; iexact H4

/-- The run's pieces for output 4 are of SEVERAL sizes (16 stores of `S1x1`, `S1x31`): cut into blocks of `![1, 1]` they tile its block (checked by the kernel's evaluation: Lib/Ring.lean `Piece.tiledBy`), so they cover it. -/
theorem cover1_A_4 (c : Dev nD) (i : grid1.Coords) (arg1 : Memref sig .tc .vmem S32x8x256 .f32) (harg1 : arg1.IsWhole) (arg2 : Memref sig .tc .vmem S32x8x256 .f32) (harg2 : arg2.IsWhole) (arg3 : Memref sig .tc .vmem S8x31 .f32) (harg3 : arg3.IsWhole) (arg4 : Memref sig .tc .vmem S1x256 .f32) (harg4 : arg4.IsWhole) (arg5 : Memref sig .tc .vmem S8x32 .f32) (harg5 : arg5.IsWhole)
    (x0 : Vec F S32x8x256 .f32) (x1 : Vec F S32x8x256 .f32) (x2 : Vec F S8x31 .f32) (x3 : Vec F S1x256 .f32) (y : S8x32.Idx) :
    ∃ pc ∈ (kernelRun1_A c i arg1 harg1 arg2 harg2 arg3 harg3 arg4 harg4 arg5 harg5 x0 x1 x2 x3).1, y ∈ pc.1.set :=
  View.cover_of_tiledBy (kernelRun1_A c i arg1 harg1 arg2 harg2 arg3 harg3 arg4 harg4 arg5 harg5 x0 x1 x2 x3).1 ![1, 1] (by sl_kernel_rfl) y

end Cert.KernelIdeal.Gen

end
-- ==== Proof.Ideal.Run.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import proofs.«01_k».proof.Proof.Ideal.Xh
public import proofs.«01_k».proof.Proof.Ideal.Att
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section Regions
-- the TensorCore's buffer contents when a region is entered: the parameter every region's half is stated at, which
-- the run instantiates per region
variable (V : (c : Dev nD) → (b : Ref sig .tc) → Buf (Elt F) ((c : Thread nD τ).loc b))

/-! # REGION 0 of @main: custom_call 0, `cc0__xh_kernel` (pipeline 0), at the entry contents `V` — class R -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

/-! ## The kernel body on any staging memrefs: a subtype the run finds -/

/-- One staging buffer of output window 8, through which its contents are stated (`View.read_writes_of_cover`: the
    choice does not matter). -/
abbrev VO0_8 : View sig .tc .vmem S3968x1 .f32 := (Memref.whole cc0_stg8_0 : Memref sig .tc .vmem S3968x1 .f32).view
/-- Each window's current staging memref at point `t`, spelled as the pipeline passes it (`bodyAt0`), and its wholeness. -/
abbrev ms0_0 (t : Fin cfg0.N) : Memref sig .tc .vmem S4096x256 .f32 := win0_0.stage (cfg0.slots t 0)
/-- The window's buffer at a point is a whole array. -/
abbrev hs0_0 (t : Fin cfg0.N) : (ms0_0 t).IsWhole := hstage0_0 0
/-- The window's buffer at a point. -/
abbrev ms0_1 (t : Fin cfg0.N) : Memref sig .tc .vmem S4096x256 .f32 := win0_1.stage (cfg0.slots t 1)
/-- The window's buffer at a point is a whole array. -/
abbrev hs0_1 (t : Fin cfg0.N) : (ms0_1 t).IsWhole := hstage0_1 0
/-- The window's buffer at a point. -/
abbrev ms0_2 (t : Fin cfg0.N) : Memref sig .tc .vmem S4096x1 .f32 := win0_2.stage (cfg0.slots t 2)
/-- The window's buffer at a point is a whole array. -/
abbrev hs0_2 (t : Fin cfg0.N) : (ms0_2 t).IsWhole := hstage0_2 0
/-- The window's buffer at a point. -/
abbrev ms0_3 (t : Fin cfg0.N) : Memref sig .tc .vmem S256x256 .f32 := win0_3.stage (cfg0.slots t 3)
/-- The window's buffer at a point is a whole array. -/
abbrev hs0_3 (t : Fin cfg0.N) : (ms0_3 t).IsWhole := hstage0_3 0
/-- The window's buffer at a point. -/
abbrev ms0_4 (t : Fin cfg0.N) : Memref sig .tc .vmem S256x256 .f32 := win0_4.stage (cfg0.slots t 4)
/-- The window's buffer at a point is a whole array. -/
abbrev hs0_4 (t : Fin cfg0.N) : (ms0_4 t).IsWhole := hstage0_4 0
/-- The window's buffer at a point. -/
abbrev ms0_5 (t : Fin cfg0.N) : Memref sig .tc .vmem S2x256 .f32 := win0_5.stage (cfg0.slots t 5)
/-- The window's buffer at a point is a whole array. -/
abbrev hs0_5 (t : Fin cfg0.N) : (ms0_5 t).IsWhole := hstage0_5 0
/-- The window's buffer at a point. -/
abbrev ms0_6 (t : Fin cfg0.N) : Memref sig .tc .vmem S256x256 .f32 := win0_6.stage (cfg0.slots t 6)
/-- The window's buffer at a point is a whole array. -/
abbrev hs0_6 (t : Fin cfg0.N) : (ms0_6 t).IsWhole := hstage0_6 0
/-- The window's buffer at a point. -/
abbrev ms0_7 (t : Fin cfg0.N) : Memref sig .tc .vmem S1x256 .f32 := win0_7.stage (cfg0.slots t 7)
/-- The window's buffer at a point is a whole array. -/
abbrev hs0_7 (t : Fin cfg0.N) : (ms0_7 t).IsWhole := hstage0_7 0
/-- The window's buffer at a point. -/
abbrev ms0_8 (t : Fin cfg0.N) : Memref sig .tc .vmem S3968x1 .f32 := win0_8.stage (cfg0.slots t 8)
/-- The window's buffer at a point is a whole array. -/
abbrev hs0_8 (t : Fin cfg0.N) : (ms0_8 t).IsWhole := hstage0_8 0
/-- The scratch operands: whole scoped buffers of the kernel's own, passed beside the windows. -/
abbrev scM0_0 : Memref sig .tc .vmem S4096x256 .f32 := Memref.whole cc0_scratch0
/-- The second scratch array, whole. -/
abbrev scM0_1 : Memref sig .tc .vmem S3968x256 .f32 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f)) ∗ (∃ r, prngReg c r)) := by
  unfold Pipeline.ΦA; rw [scopedRest0_eq]; simp only [scM0_0, scM0_1, owns_whole]; try rfl

/-! ## What the outputs hold after each point -/

/-- What the outputs' staging buffers hold after the body at point `t`: the run's contents at
    the point's memrefs and input blocks. -/
def outsAt0 (c : Dev nD) (t : Fin cfg0.N) : Vec F S3968x1 .f32 :=
  xhOut (iblk0 V c 0 t) (iblk0 V c 1 t) (iblk0 V c 2 t) (iblk0 V c 3 t) (iblk0 V c 4 t) (iblk0 V c 5 t) (iblk0 V c 6 t) (iblk0 V c 7 t)

/-! ## The pipeline's proof data -/

/-- The proof data of pipeline 0 on core `c`: the arrays as the region finds them (`V`); after the body at
    point `t` each input's buffer at its block and the outputs' at `outsAt0`; the invariant the class's
    (Lib/Pipeline/Frame.lean `ΦA`: the scoped rest and the generator register); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => (outsAt0 V c t)
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`). -/
theorem after0_0 (c : Dev nD) (t : Fin cfg0.N) : (dat0 V c).after 0 t = iblk0 V c 0 t := by dsimp only [dat0]
/-- What the window's buffer holds after the body. -/
theorem after0_1 (c : Dev nD) (t : Fin cfg0.N) : (dat0 V c).after 1 t = iblk0 V c 1 t := by dsimp only [dat0]
/-- What the window's buffer holds after the body. -/
theorem after0_2 (c : Dev nD) (t : Fin cfg0.N) : (dat0 V c).after 2 t = iblk0 V c 2 t := by dsimp only [dat0]
/-- What the window's buffer holds after the body. -/
theorem after0_3 (c : Dev nD) (t : Fin cfg0.N) : (dat0 V c).after 3 t = iblk0 V c 3 t := by dsimp only [dat0]
/-- What the window's buffer holds after the body. -/
theorem after0_4 (c : Dev nD) (t : Fin cfg0.N) : (dat0 V c).after 4 t = iblk0 V c 4 t := by dsimp only [dat0]
/-- What the window's buffer holds after the body. -/
theorem after0_5 (c : Dev nD) (t : Fin cfg0.N) : (dat0 V c).after 5 t = iblk0 V c 5 t := by dsimp only [dat0]
/-- What the window's buffer holds after the body. -/
theorem after0_6 (c : Dev nD) (t : Fin cfg0.N) : (dat0 V c).after 6 t = iblk0 V c 6 t := by dsimp only [dat0]
/-- What the window's buffer holds after the body. -/
theorem after0_7 (c : Dev nD) (t : Fin cfg0.N) : (dat0 V c).after 7 t = iblk0 V c 7 t := by dsimp only [dat0]
/-- What the window's buffer holds after the body. -/
theorem after0_8 (c : Dev nD) (t : Fin cfg0.N) : (dat0 V c).after 8 t = (outsAt0 V c t) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
/-- What the window's buffer holds before the body. -/
theorem before0_1 (c : Dev nD) (t : Fin cfg0.N) (d) : (dat0 V c).before 1 t d = iblk0 V c 1 t :=
  before0_1_of V (dat0 V c) (A_eq0 V c 1) (after0_1 V c) t d
/-- What the window's buffer holds before the body. -/
theorem before0_2 (c : Dev nD) (t : Fin cfg0.N) (d) : (dat0 V c).before 2 t d = iblk0 V c 2 t :=
  before0_2_of V (dat0 V c) (A_eq0 V c 2) (after0_2 V c) t d
/-- What the window's buffer holds before the body. -/
theorem before0_3 (c : Dev nD) (t : Fin cfg0.N) (d) : (dat0 V c).before 3 t d = iblk0 V c 3 t :=
  before0_3_of V (dat0 V c) (A_eq0 V c 3) (after0_3 V c) t d
/-- What the window's buffer holds before the body. -/
theorem before0_4 (c : Dev nD) (t : Fin cfg0.N) (d) : (dat0 V c).before 4 t d = iblk0 V c 4 t :=
  before0_4_of V (dat0 V c) (A_eq0 V c 4) (after0_4 V c) t d
/-- What the window's buffer holds before the body. -/
theorem before0_5 (c : Dev nD) (t : Fin cfg0.N) (d) : (dat0 V c).before 5 t d = iblk0 V c 5 t :=
  before0_5_of V (dat0 V c) (A_eq0 V c 5) (after0_5 V c) t d
/-- What the window's buffer holds before the body. -/
theorem before0_6 (c : Dev nD) (t : Fin cfg0.N) (d) : (dat0 V c).before 6 t d = iblk0 V c 6 t :=
  before0_6_of V (dat0 V c) (A_eq0 V c 6) (after0_6 V c) t d
/-- What the window's buffer holds before the body. -/
theorem before0_7 (c : Dev nD) (t : Fin cfg0.N) (d) : (dat0 V c).before 7 t d = iblk0 V c 7 t :=
  before0_7_of V (dat0 V c) (A_eq0 V c 7) (after0_7 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t)
    ∗ owns (c : Thread nD τ) (ms0_6 t) fullShare ((dat0 V c).after 6 t)
    ∗ owns (c : Thread nD τ) (ms0_7 t) fullShare ((dat0 V c).after 7 t)
    ∗ owns (c : Thread nD τ) (ms0_8 t) fullShare ((dat0 V c).after 8 t))

set_option maxHeartbeats 800000 in
/-- The body at any point: the inputs' memrefs hold their blocks (`before0_W`); so the
    run applies; the invariant hands the body its scratch buffers at some contents (and the generator register) and takes them back at some contents (`PhiA_eq`); the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8]
  rw [show (dat0 V c).Φ t.castSucc = Pipeline.ΦA spec0 c from rfl, PhiA0_eq]
  unfold outsAt0
  iintro ⟨⟨⟨HS0, HS1, HR2, HR3, HR4, HR5, HR6, HR7, HR8, HR9, HR10⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (xhBody c _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [HS0]; · iexact HS0
  isplitl [HS1]; · iexact HS1
  iintro ⟨H0, H1, H2, H3, H4, H5, H6, H7, H8, HS0, HS1⟩
  isplitl [HS0 HS1 HR2 HR3 HR4 HR5 HR6 HR7 HR8 HR9 HR10 Hg]
  · isplitl [HS0 HS1 HR2 HR3 HR4 HR5 HR6 HR7 HR8 HR9 HR10]
    · isplitl [HS0]
      · iexact HS0
      isplitl [HS1]
      · iexact HS1
      isplitl [HR2]
      · iexact HR2
      isplitl [HR3]
      · iexact HR3
      isplitl [HR4]
      · iexact HR4
      isplitl [HR5]
      · iexact HR5
      isplitl [HR6]
      · iexact HR6
      isplitl [HR7]
      · iexact HR7
      isplitl [HR8]
      · iexact HR8
      isplitl [HR9]
      · iexact HR9
      iexact HR10
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

/-! # REGION 1 of @main: custom_call 1, `cc1__att_kernel` (pipeline 1), at the entry contents `V` — class R -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The kernel body on any staging memrefs: a subtype the run finds -/

/-- One staging buffer of output window 4, through which its contents are stated (`View.read_writes_of_cover`: the
    choice does not matter). -/
abbrev VO1_4 : View sig .tc .vmem S8x32 .f32 := (Memref.whole cc1_stg4_0 : Memref sig .tc .vmem S8x32 .f32).view
/-- Each window's current staging memref at point `t`, spelled as the pipeline passes it (`bodyAt1`), and its wholeness. -/
abbrev ms1_0 (t : Fin cfg1.N) : Memref sig .tc .vmem S32x8x256 .f32 := win1_0.stage (cfg1.slots t 0)
/-- The window's buffer at a point is a whole array. -/
abbrev hs1_0 (t : Fin cfg1.N) : (ms1_0 t).IsWhole := hstage1_0 ((cfg1.slots t 0).cast nbuf1_0)
/-- The window's buffer at a point. -/
abbrev ms1_1 (t : Fin cfg1.N) : Memref sig .tc .vmem S32x8x256 .f32 := win1_1.stage (cfg1.slots t 1)
/-- The window's buffer at a point is a whole array. -/
abbrev hs1_1 (t : Fin cfg1.N) : (ms1_1 t).IsWhole := hstage1_1 ((cfg1.slots t 1).cast nbuf1_1)
/-- The window's buffer at a point. -/
abbrev ms1_2 (t : Fin cfg1.N) : Memref sig .tc .vmem S8x31 .f32 := win1_2.stage (cfg1.slots t 2)
/-- The window's buffer at a point is a whole array. -/
abbrev hs1_2 (t : Fin cfg1.N) : (ms1_2 t).IsWhole := hstage1_2 ((cfg1.slots t 2).cast nbuf1_2)
/-- The window's buffer at a point. -/
abbrev ms1_3 (t : Fin cfg1.N) : Memref sig .tc .vmem S1x256 .f32 := win1_3.stage (cfg1.slots t 3)
/-- The window's buffer at a point is a whole array. -/
abbrev hs1_3 (t : Fin cfg1.N) : (ms1_3 t).IsWhole := hstage1_3 ((cfg1.slots t 3).cast nbuf1_3)
/-- The window's buffer at a point. -/
abbrev ms1_4 (t : Fin cfg1.N) : Memref sig .tc .vmem S8x32 .f32 := win1_4.stage (cfg1.slots t 4)
/-- The window's buffer at a point is a whole array. -/
abbrev hs1_4 (t : Fin cfg1.N) : (ms1_4 t).IsWhole := hstage1_4 ((cfg1.slots t 4).cast nbuf1_4)

/-- What the run leaves in output 4's staging buffer: its pieces read back over junk. -/
def out1_A_4 (c : Dev nD) (i : grid1.Coords) (arg1 : Memref sig .tc .vmem S32x8x256 .f32) (harg1 : arg1.IsWhole) (arg2 : Memref sig .tc .vmem S32x8x256 .f32) (harg2 : arg2.IsWhole) (arg3 : Memref sig .tc .vmem S8x31 .f32) (harg3 : arg3.IsWhole) (arg4 : Memref sig .tc .vmem S1x256 .f32) (harg4 : arg4.IsWhole) (arg5 : Memref sig .tc .vmem S8x32 .f32) (harg5 : arg5.IsWhole)
    (x0 : Vec F S32x8x256 .f32) (x1 : Vec F S32x8x256 .f32) (x2 : Vec F S8x31 .f32) (x3 : Vec F S1x256 .f32) : Vec F S8x32 .f32 :=
  VO1_4.read (Elt F) (VO1_4.writes (Elt F) VO1_4.junk (kernelRun1_A c i arg1 harg1 arg2 harg2 arg3 harg3 arg4 harg4 arg5 harg5 x0 x1 x2 x3).1)

/-! ## What the outputs hold after each point -/

/-- What the outputs' staging buffers hold after the body at point `t`: the run's contents at
    the point's memrefs and input blocks. -/
def outsAt1 (c : Dev nD) (t : Fin cfg1.N) : Vec F S8x32 .f32 :=
  out1_A_4 c (grid1.coords t) (ms1_0 t) (hs1_0 t) (ms1_1 t) (hs1_1 t) (ms1_2 t) (hs1_2 t) (ms1_3 t) (hs1_3 t) (ms1_4 t) (hs1_4 t) (iblk1 V c 0 t) (iblk1 V c 1 t) (iblk1 V c 2 t) (iblk1 V c 3 t)

/-! ## The pipeline's proof data -/

/-- The proof data of pipeline 1 on core `c`: the arrays as the region finds them (`V`); after the body at
    point `t` each input's buffer at its block and the outputs' at `outsAt1`; the invariant the class's
    (Lib/Pipeline/Frame.lean `ΦA`: the scoped rest and the generator register); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t)
  Φ _ := Pipeline.ΦA spec1 c
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`). -/
theorem after1_0 (c : Dev nD) (t : Fin cfg1.N) : (dat1 V c).after 0 t = iblk1 V c 0 t := by dsimp only [dat1]
/-- What the window's buffer holds after the body. -/
theorem after1_1 (c : Dev nD) (t : Fin cfg1.N) : (dat1 V c).after 1 t = iblk1 V c 1 t := by dsimp only [dat1]
/-- What the window's buffer holds after the body. -/
theorem after1_2 (c : Dev nD) (t : Fin cfg1.N) : (dat1 V c).after 2 t = iblk1 V c 2 t := by dsimp only [dat1]
/-- What the window's buffer holds after the body. -/
theorem after1_3 (c : Dev nD) (t : Fin cfg1.N) : (dat1 V c).after 3 t = iblk1 V c 3 t := by dsimp only [dat1]
/-- What the window's buffer holds after the body. -/
theorem after1_4 (c : Dev nD) (t : Fin cfg1.N) : (dat1 V c).after 4 t = (outsAt1 V c t) := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
/-- What the window's buffer holds before the body. -/
theorem before1_1 (c : Dev nD) (t : Fin cfg1.N) (d) : (dat1 V c).before 1 t d = iblk1 V c 1 t :=
  before1_1_of V (dat1 V c) (A_eq1 V c 1) (after1_1 V c) t d
/-- What the window's buffer holds before the body. -/
theorem before1_2 (c : Dev nD) (t : Fin cfg1.N) (d) : (dat1 V c).before 2 t d = iblk1 V c 2 t :=
  before1_2_of V (dat1 V c) (A_eq1 V c 2) (after1_2 V c) t d
/-- What the window's buffer holds before the body. -/
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t))

/-- The body at any point: the inputs' memrefs hold their blocks (`before1_W`); so the
    run applies; the invariant passes through unread; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  unfold outsAt1
  unfold out1_A_4
  iintro ⟨HΦ, Ho, ⟨%d0, H0⟩, ⟨%d1, H1⟩, ⟨%d2, H2⟩, ⟨%d3, H3⟩, ⟨%d4, H4⟩⟩
  iapply ((kernelRun1_A c (grid1.coords t) _ _ _ _ _ _ _ _ _ _ (iblk1 V c 0 t) (iblk1 V c 1 t) (iblk1 V c 2 t) (iblk1 V c 3 t)).2 Set.univ _)
  isplitl [H0]; · iexact H0
  isplitl [H1]; · iexact H1
  isplitl [H2]; · iexact H2
  isplitl [H3]; · iexact H3
  isplitl [H4]; · iexists _; iexact H4
  iintro ⟨H0, H1, H2, H3, ⟨%e4, H4⟩⟩
  isplitl [HΦ]; · iexact HΦ
  isplitl [Ho]; · iexact Ho
  isplitl [H0]; · iexact H0
  isplitl [H1]; · iexact H1
  isplitl [H2]; · iexact H2
  isplitl [H3]; · iexact H3
  unfold owns; iexists _; isplitr
  swap; · iexact H4
  ipureintro; exact View.read_writes_of_cover _ _ _ _ _ (cover1_A_4 c _ _ _ _ _ _ _ _ _ _ _ _ _ _ _)

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Regions

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2, main_arg3, main_arg4, main_arg5, main_arg6, main_arg7, main_arg8, main_arg9, main_arg10, main_arg11, main_arg12, main_arg13, main_arg14, main_arg15]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_c, main_v0, main_v1, main_c_0, main_v2, main_v3, main_v4, main_v5, main_v6, main_cst, main_v7, main_cst_1, main_v8, main_v9, main_v10, main_v11, main_c_2, main_v12, main_v13, main_c_3, main_v14, main_v15, main_v16, main_v17, main_v18, main_cst_4, main_v19, main_cst_5, main_v20, main_v21, main_v22, main_v23, main_v24, main_v25, main_v26, main_v27, main_v28, main_v29, main_c_6, main_v30, main_v31, main_c_7, main_v32, main_v33, main_v34, main_v35, main_v36, main_c_8, main_v37, main_v38, main_c_9, main_v39, main_v40, main_v41, main_v42, main_v43, main_c_10, main_v44, main_v45, main_c_11, main_v46, main_v47, main_v48, main_v49, main_v50, main_c_12, main_v51, main_v52, main_c_13, main_v53, main_v54, main_v55, main_v56, main_v57, main_c_14, main_v58, main_v59, main_c_15, main_v60, main_v61, main_v62, main_v63, main_v64, main_cst_16, main_v65, main_cst_17, main_v66, main_v67, main_c_18, main_v68, main_v69, main_c_19, main_v70, main_v71, main_v72, main_v73, main_v74, main_c_20, main_v75, main_v76, main_c_21, main_v77, main_v78, main_v79, main_v80, main_v81, main_cst_22, main_v82, main_cst_23, main_v83, main_v84, main_c_24, main_v85, main_v86, main_v87, main_v88, main_v89]
/-- Which arrays these host operations write. -/
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps0_1` allocates a buffer. -/
theorem hostOps0_1_fresh : (hostOps0_1 : List (HloOp τ sig (Elt F))).Forall fun op => op.fresh = ∅ := by
  simp only [List.Forall]; repeat' constructor
/-- The reference each operation of `hostOps0_1` writes, in order. -/
abbrev hostOps0_1_W : List (Ref sig .tc) := [main_call0_v0, main_v90]
/-- Which arrays these host operations write. -/
theorem hostOps0_1_writes : (hostOps0_1 : List (HloOp τ sig (Elt F))).Forall fun op => op.writes ⊆ (hostOps0_1_W.map (Proc.devRef (τ := τ) .tc)).toFinset :=
  StableHlo.forall_writes_sub_of_map rfl
/-- `hostOps0_1` writes none of the argument arrays (checked: each argument against each reference it writes). -/
theorem hostOps0_1_args : ∀ a ∈ argRefs, a ∉ hostOps0_1_W := ListAll.forall_mem_of_all_decide (by decide +kernel)

/-- No operation of `hostOps0_2` allocates a buffer. -/
theorem hostOps0_2_fresh : (hostOps0_2 : List (HloOp τ sig (Elt F))).Forall fun op => op.fresh = ∅ := by
  simp only [List.Forall]; repeat' constructor
/-- The reference each operation of `hostOps0_2` writes, in order. -/
abbrev hostOps0_2_W : List (Ref sig .tc) := [main_v91, main_v92, main_v93, main_v94, main_v95, main_v96, main_v97, main_v98, main_v99, main_v100, main_v101, main_v102, main_v103, main_v104]
/-- Which arrays these host operations write. -/
theorem hostOps0_2_writes : (hostOps0_2 : List (HloOp τ sig (Elt F))).Forall fun op => op.writes ⊆ (hostOps0_2_W.map (Proc.devRef (τ := τ) .tc)).toFinset :=
  StableHlo.forall_writes_sub_of_map rfl
/-- `hostOps0_2` writes none of the argument arrays (checked: each argument against each reference it writes). -/
theorem hostOps0_2_args : ∀ a ∈ argRefs, a ∉ hostOps0_2_W := ListAll.forall_mem_of_all_decide (by decide +kernel)

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v106, main_v107, main_v108, main_v109]
/-- Which arrays these host operations write. -/
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
/-- The arguments still hold their launch contents here. -/
theorem W0_args (c : Dev nD) : ∀ a ∈ argRefs, W0 m ρ c (Proc.devRef .tc a) = m ((c : Thread nD τ).loc a) := fun _ _ => rfl
/-- After `hostOps0`. -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
/-- The arguments still hold their launch contents here. -/
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- After `hostOps0_1`. -/
abbrev W2 : Dev nD → Valuation τ sig (Elt F) := fun c => StableHlo.after hostOps0_1 (W1 m ρ c)
/-- A reference `hostOps0_1` does not write keeps its contents across it. -/
theorem W2_of (c : Dev nD) (r : Ref sig .tc) (h : r ∉ hostOps0_1_W) : W2 m ρ c (Proc.devRef .tc r) = W1 m ρ c (Proc.devRef .tc r) :=
  StableHlo.after_of_writes_sub hostOps0_1 _ hostOps0_1_writes h
/-- The arguments still hold their launch contents here. -/
theorem W2_args (c : Dev nD) : ∀ a ∈ argRefs, W2 m ρ c (Proc.devRef .tc a) = m ((c : Thread nD τ).loc a) :=
  fun a ha => (W2_of m ρ c a (hostOps0_1_args a ha)).trans (W1_args m ρ c a ha)
/-- After `hostOps0_2` (region 0's entry). -/
abbrev W3 : Dev nD → Valuation τ sig (Elt F) := fun c => StableHlo.after hostOps0_2 (W2 m ρ c)
/-- A reference `hostOps0_2` does not write keeps its contents across it. -/
theorem W3_of (c : Dev nD) (r : Ref sig .tc) (h : r ∉ hostOps0_2_W) : W3 m ρ c (Proc.devRef .tc r) = W2 m ρ c (Proc.devRef .tc r) :=
  StableHlo.after_of_writes_sub hostOps0_2 _ hostOps0_2_writes h
/-- The arguments still hold their launch contents here. -/
theorem W3_args (c : Dev nD) : ∀ a ∈ argRefs, W3 m ρ c (Proc.devRef .tc a) = m ((c : Thread nD τ).loc a) :=
  fun a ha => (W3_of m ρ c a (hostOps0_2_args a ha)).trans (W2_args m ρ c a ha)
/-- The same read at the TensorCore's references (what region 0's proof data take). -/
abbrev V3 : (c : Dev nD) → (b : Ref sig .tc) → Buf (Elt F) ((c : Thread nD τ).loc b) := fun c b => W3 m ρ c b
/-- At region 0's exit: its arrays at what the pipeline leaves (the inputs as entered, each output's write-backs
    folded: `Dat.arrAt … N`), every other buffer as entered (Lib/Pipeline/FrameSuffix.lean `withArrays`). -/
def W4 (c : Dev nD) : Valuation τ sig (Elt F) :=
  Pipeline.withArrays spec0 c (W3 m ρ c) fun w => (dat0 (V3 m ρ) c).arrAt w cfg0.N
/-- A window's array after the call. -/
theorem W4_arr (c : Dev nD) (w : Fin cfg0.W) :
    W4 m ρ c (Proc.devRef .tc (Pipeline.arrRef spec0 w)) = (dat0 (V3 m ρ) c).arrAt w cfg0.N := by
  unfold W4; exact Pipeline.withArrays_arr spec0 launch0.win.arr_inj c _ _ w
/-- An array that no window stages is unchanged by the call. -/
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
/-- A reference that is none of region 0's OUTPUT arrays keeps its entry contents across it: an input window's
    array is never written back (`Dat.arrAt_in`, `A_eq0`); any other buffer is left as is. -/
theorem W4_of (c : Dev nD) (r : Ref sig .tc) (h : ∀ w : Fin cfg0.W, Pipeline.arrRef spec0 w = r → (cfg0.win w).isOut = false) :
    W4 m ρ c (Proc.devRef .tc r) = W3 m ρ c (Proc.devRef .tc r) := by
  by_cases hw : ∃ w : Fin cfg0.W, Pipeline.arrRef spec0 w = r
  · obtain ⟨w, rfl⟩ := hw
    exact (W4_arr m ρ c w).trans (((dat0 (V3 m ρ) c).arrAt_in w (h w rfl) _).trans (A_eq0 (V3 m ρ) c w))
  · exact W4_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
/-- The arguments still hold their launch contents here. -/
theorem W4_args (c : Dev nD) : ∀ a ∈ argRefs, W4 m ρ c (Proc.devRef .tc a) = m ((c : Thread nD τ).loc a) :=
  fun a ha => (W4_of m ρ c a (argsIn0 a ha)).trans (W3_args m ρ c a ha)
/-- The same read at the TensorCore's references (region 0's exit contents). -/
abbrev V4 : (c : Dev nD) → (b : Ref sig .tc) → Buf (Elt F) ((c : Thread nD τ).loc b) := fun c b => W4 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V3 m ρ) c).arrAt w cfg0.N = V4 m ρ c (Pipeline.arrRef spec0 w) :=
  (W4_arr m ρ c w).symm
/-- The arrays that the call does not stage are unchanged. -/
theorem hrest0 (c : Dev nD) : ∀ b, b ∉ Finset.univ.image (Pipeline.arrRef spec0) → V4 m ρ c b = V3 m ρ c b :=
  fun b hb => W4_of_ne m ρ c b fun w e => hb (Finset.mem_image.mpr ⟨w, Finset.mem_univ _, e⟩)

/-- After `hostOps1` (region 1's entry). -/
abbrev W5 : Dev nD → Valuation τ sig (Elt F) := fun c => StableHlo.after hostOps1 (W4 m ρ c)
/-- A reference `hostOps1` does not write keeps its contents across it. -/
theorem W5_of (c : Dev nD) (r : Ref sig .tc) (h : r ∉ hostOps1_W) : W5 m ρ c (Proc.devRef .tc r) = W4 m ρ c (Proc.devRef .tc r) :=
  StableHlo.after_of_writes_sub hostOps1 _ hostOps1_writes h
/-- The arguments still hold their launch contents here. -/
theorem W5_args (c : Dev nD) : ∀ a ∈ argRefs, W5 m ρ c (Proc.devRef .tc a) = m ((c : Thread nD τ).loc a) :=
  fun a ha => (W5_of m ρ c a (hostOps1_args a ha)).trans (W4_args m ρ c a ha)
/-- The same read at the TensorCore's references (what region 1's proof data take). -/
abbrev V5 : (c : Dev nD) → (b : Ref sig .tc) → Buf (Elt F) ((c : Thread nD τ).loc b) := fun c b => W5 m ρ c b
/-- At region 1's exit: its arrays at what the pipeline leaves (the inputs as entered, each output's write-backs
    folded: `Dat.arrAt … N`), every other buffer as entered (Lib/Pipeline/FrameSuffix.lean `withArrays`). -/
def W6 (c : Dev nD) : Valuation τ sig (Elt F) :=
  Pipeline.withArrays spec1 c (W5 m ρ c) fun w => (dat1 (V5 m ρ) c).arrAt w cfg1.N
/-- A window's array after the call. -/
theorem W6_arr (c : Dev nD) (w : Fin cfg1.W) :
    W6 m ρ c (Proc.devRef .tc (Pipeline.arrRef spec1 w)) = (dat1 (V5 m ρ) c).arrAt w cfg1.N := by
  unfold W6; exact Pipeline.withArrays_arr spec1 launch1.win.arr_inj c _ _ w
/-- An array that no window stages is unchanged by the call. -/
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
/-- A reference that is none of region 1's OUTPUT arrays keeps its entry contents across it: an input window's
    array is never written back (`Dat.arrAt_in`, `A_eq1`); any other buffer is left as is. -/
theorem W6_of (c : Dev nD) (r : Ref sig .tc) (h : ∀ w : Fin cfg1.W, Pipeline.arrRef spec1 w = r → (cfg1.win w).isOut = false) :
    W6 m ρ c (Proc.devRef .tc r) = W5 m ρ c (Proc.devRef .tc r) := by
  by_cases hw : ∃ w : Fin cfg1.W, Pipeline.arrRef spec1 w = r
  · obtain ⟨w, rfl⟩ := hw
    exact (W6_arr m ρ c w).trans (((dat1 (V5 m ρ) c).arrAt_in w (h w rfl) _).trans (A_eq1 (V5 m ρ) c w))
  · exact W6_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
/-- The arguments still hold their launch contents here. -/
theorem W6_args (c : Dev nD) : ∀ a ∈ argRefs, W6 m ρ c (Proc.devRef .tc a) = m ((c : Thread nD τ).loc a) :=
  fun a ha => (W6_of m ρ c a (argsIn1 a ha)).trans (W5_args m ρ c a ha)
/-- The same read at the TensorCore's references (region 1's exit contents). -/
abbrev V6 : (c : Dev nD) → (b : Ref sig .tc) → Buf (Elt F) ((c : Thread nD τ).loc b) := fun c b => W6 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V5 m ρ) c).arrAt w cfg1.N = V6 m ρ c (Pipeline.arrRef spec1 w) :=
  (W6_arr m ρ c w).symm
/-- The arrays that the call does not stage are unchanged. -/
theorem hrest1 (c : Dev nD) : ∀ b, b ∉ Finset.univ.image (Pipeline.arrRef spec1) → V6 m ρ c b = V5 m ρ c b :=
  fun b hb => W6_of_ne m ρ c b fun w e => hb (Finset.mem_image.mpr ⟨w, Finset.mem_univ _, e⟩)

/-! ### The arguments end as launched: no host stretch writes one and no region may change one (a region reads it
    through an input window or bypasses it) -/

/-- This argument ends unchanged. -/
theorem W6_main_arg0 (c : Dev nD) : W6 m ρ c (Proc.devRef .tc main_arg0) = m ((c : Thread nD τ).loc main_arg0) :=
  W6_args m ρ c main_arg0 (by decide)
/-- This argument ends unchanged. -/
theorem W6_main_arg1 (c : Dev nD) : W6 m ρ c (Proc.devRef .tc main_arg1) = m ((c : Thread nD τ).loc main_arg1) :=
  W6_args m ρ c main_arg1 (by decide)
/-- This argument ends unchanged. -/
theorem W6_main_arg2 (c : Dev nD) : W6 m ρ c (Proc.devRef .tc main_arg2) = m ((c : Thread nD τ).loc main_arg2) :=
  W6_args m ρ c main_arg2 (by decide)
/-- This argument ends unchanged. -/
theorem W6_main_arg3 (c : Dev nD) : W6 m ρ c (Proc.devRef .tc main_arg3) = m ((c : Thread nD τ).loc main_arg3) :=
  W6_args m ρ c main_arg3 (by decide)
/-- This argument ends unchanged. -/
theorem W6_main_arg4 (c : Dev nD) : W6 m ρ c (Proc.devRef .tc main_arg4) = m ((c : Thread nD τ).loc main_arg4) :=
  W6_args m ρ c main_arg4 (by decide)
/-- This argument ends unchanged. -/
theorem W6_main_arg5 (c : Dev nD) : W6 m ρ c (Proc.devRef .tc main_arg5) = m ((c : Thread nD τ).loc main_arg5) :=
  W6_args m ρ c main_arg5 (by decide)
/-- This argument ends unchanged. -/
theorem W6_main_arg6 (c : Dev nD) : W6 m ρ c (Proc.devRef .tc main_arg6) = m ((c : Thread nD τ).loc main_arg6) :=
  W6_args m ρ c main_arg6 (by decide)
/-- This argument ends unchanged. -/
theorem W6_main_arg7 (c : Dev nD) : W6 m ρ c (Proc.devRef .tc main_arg7) = m ((c : Thread nD τ).loc main_arg7) :=
  W6_args m ρ c main_arg7 (by decide)
/-- This argument ends unchanged. -/
theorem W6_main_arg8 (c : Dev nD) : W6 m ρ c (Proc.devRef .tc main_arg8) = m ((c : Thread nD τ).loc main_arg8) :=
  W6_args m ρ c main_arg8 (by decide)
/-- This argument ends unchanged. -/
theorem W6_main_arg9 (c : Dev nD) : W6 m ρ c (Proc.devRef .tc main_arg9) = m ((c : Thread nD τ).loc main_arg9) :=
  W6_args m ρ c main_arg9 (by decide)
/-- This argument ends unchanged. -/
theorem W6_main_arg10 (c : Dev nD) : W6 m ρ c (Proc.devRef .tc main_arg10) = m ((c : Thread nD τ).loc main_arg10) :=
  W6_args m ρ c main_arg10 (by decide)
/-- This argument ends unchanged. -/
theorem W6_main_arg11 (c : Dev nD) : W6 m ρ c (Proc.devRef .tc main_arg11) = m ((c : Thread nD τ).loc main_arg11) :=
  W6_args m ρ c main_arg11 (by decide)
/-- This argument ends unchanged. -/
theorem W6_main_arg12 (c : Dev nD) : W6 m ρ c (Proc.devRef .tc main_arg12) = m ((c : Thread nD τ).loc main_arg12) :=
  W6_args m ρ c main_arg12 (by decide)
/-- This argument ends unchanged. -/
theorem W6_main_arg13 (c : Dev nD) : W6 m ρ c (Proc.devRef .tc main_arg13) = m ((c : Thread nD τ).loc main_arg13) :=
  W6_args m ρ c main_arg13 (by decide)
/-- This argument ends unchanged. -/
theorem W6_main_arg14 (c : Dev nD) : W6 m ρ c (Proc.devRef .tc main_arg14) = m ((c : Thread nD τ).loc main_arg14) :=
  W6_args m ρ c main_arg14 (by decide)
/-- This argument ends unchanged. -/
theorem W6_main_arg15 (c : Dev nD) : W6 m ρ c (Proc.devRef .tc main_arg15) = m ((c : Thread nD τ).loc main_arg15) :=
  W6_args m ρ c main_arg15 (by decide)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V3 m ρ) c
  | ⟨1, _⟩ => fun c => dat1 (V5 m ρ) c
/-- No loop variant is needed. -/
abbrev 𝒱₀ : Variants := Variants.none
/-- No core owes another anything: no level is assigned. -/
abbrev L : GSem nD τ sig → Finset Unit := fun _ => ∅
/-- Every semaphore is at one level. -/
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W6`, the generator register at some state. -/
abbrev Tₙ (c : Dev nD) : sProp 𝕄 := iprop(StableHlo.held (c : Thread nD τ) (Pipeline.ucRefs τ sig) (W6 m ρ c) ∗ ∃ r, prngReg c r)

/-! ## The regions as segments -/

set_option backward.isDefEq.respectTransparency.types false in
/-- REGION 0 (custom_call 0) over the thread state: entered from every unscoped buffer at `W3`, left at `W4`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V3 m ρ c) (A_eq0 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V3 m ρ c) (V4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 (custom_call 1) over the thread state: entered from every unscoped buffer at `W5`, left at `W6`
    (what the launch reads at the end). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V5 m ρ c) (A_eq1 (V5 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V5 m ρ c) (V6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 6 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .region (reg1 m ρ) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

set_option backward.isDefEq.respectTransparency.types false in
/-- The run: it terminates, the result array ends at the last boundary's contents, the argument arrays end as launched
    and every semaphore counter at zero. -/
theorem runAll : θ_run defs (onTc (τ := τ) (main (F := F))) ⟨m, fun _ => 0, ρ⟩ (fun r => (∀ c : Dev nD,
      r.2.mem ((c.tc : Thread nD τ).loc main_v110) = W6 m ρ c main_v110
      ∧       r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h hz => ⟨(fun c =>
      ⟨(h c _ (mem_uc main_v110 (by decide))),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c),
       (h c _ (mem_uc main_arg12 (by decide))).trans (W6_main_arg12 m ρ c),
       (h c _ (mem_uc main_arg13 (by decide))).trans (W6_main_arg13 m ρ c),
       (h c _ (mem_uc main_arg14 (by decide))).trans (W6_main_arg14 m ρ c),
       (h c _ (mem_uc main_arg15 (by decide))).trans (W6_main_arg15 m ρ c)⟩), funext fun g => hz g (.inr (no_unscoped g.2))⟩)

end Cert.KernelIdeal.Gen

end
-- ==== Proof.Ideal.AttRow.lean ====
module

public import proofs.«01_k».proof.Proof.Ideal.Att

@[expose] public section

set_option maxRecDepth 16384

noncomputable section

namespace Cert.KernelIdeal.Gen

open Idealize.ShloMosaic Idealize.ShloMosaic.TcCoe Idealize.ShloMosaic.Tactic

variable {F : FTy → Type} [FloatOps F]

/-! # The attention kernel's rows

Every one of the eight rows of a block is computed by the same operations. They are written here once, as a function of
the three loads of the row, and the pieces the run finds are restated over it. -/

/-- A column of the score matrix is a slice of it. -/
theorem attSlices (j : ℕ) (hj : j < 32) : S31x32.Slices ![0, j] S31x1 :=
  (show ∀ j : Fin 32, S31x32.Slices ![0, j.val] S31x1 by decide) ⟨j, hj⟩

/-- One column's contribution to the ranks: one more for each entry of the row that column `j` beats. -/
def attStep (S : FVec F S31x32 .f32) (cnt : IVec S31x32 32) (j : ℕ) (hj : j < 32) : IVec S31x32 32 :=
  addi cnt (select
    (andi (broadcastTo S31x32 (extractStridedSlice S31x1 ![0, j] k1_pay1 (attSlices j hj)) broadcasts_S31x1_S31x32)
      (ori (cmpf .ogt (broadcastTo S31x32 (extractStridedSlice S31x1 ![0, j] S (attSlices j hj)) broadcasts_S31x1_S31x32) S)
        (andi (cmpf .oeq (broadcastTo S31x32 (extractStridedSlice S31x1 ![0, j] S (attSlices j hj)) broadcasts_S31x1_S31x32) S)
          (cmpi .sgt (iota .tc S31x32 32 [1] iota_S31x32_d1_w32) (broadcast S31x32 (BitVec.ofNat 32 j))))))
    (broadcast S31x32 1#32) (broadcast S31x32 0#32))

/-- The ranks counted over the first `n` columns. -/
def attRank (S : FVec F S31x32 .f32) : (n : ℕ) → n ≤ 32 → IVec S31x32 32
  | 0, _ => broadcast S31x32 0#32
  | n + 1, h => attStep S (attRank S n (by omega)) n (by omega)

/-- The entries kept: the valid ones of rank below ten. -/
def attKeep (S : FVec F S31x32 .f32) : IVec S31x32 1 :=
  andi k1_pay1 (cmpi .slt (attRank S 32 le_rfl) (broadcast S31x32 10#32))

/-- The exponentials of the kept scores, shifted by the row's maximum. -/
def attExp (S : FVec F S31x32 .f32) : FVec F S31x32 .f32 :=
  select (attKeep S)
    (exp (subf S (broadcastTo S31x32 (shapeCast S31x1 (multiReduction .maximumf [1] S31
      (select (attKeep S) S (broadcast S31x32 (Scalar.ofBits .f32 0xFF61B1E6#32))) 0xFF800000#32 reduces_S31x32_S31 (.inl rfl) rfl)
      shapeCasts_S31_S31x1) broadcasts_S31x1_S31x32)))
    (broadcast S31x32 (Scalar.ofBits .f32 0x00000000#32))

/-- The attention weights. -/
def attW (S : FVec F S31x32 .f32) : FVec F S31x32 .f32 :=
  divf (attExp S) (broadcastTo S31x32 (shapeCast S31x1 (multiReduction .add [1] S31 (attExp S) 0x00000000#32 reduces_S31x32_S31
    (.inl rfl) rfl) shapeCasts_S31_S31x1) broadcasts_S31x1_S31x32)

/-- The scores of a row: each step's next embedding against every step's. -/
def attS (e : Vec F S32x1x256 .f32) : FVec F S31x32 .f32 :=
  extractStridedSlice S31x32 ![1, 0] (matmul dot_S32x256_S32x256_S32x32_1_1_0_0_n_n none (shapeCast S32x256 e shapeCasts_S32x1x256_S32x256)
    (shapeCast S32x256 e shapeCasts_S32x1x256_S32x256) (constant S32x32 .f32 0x00000000#32)) slices_S32x32_o1_0_S31x32

/-- A row of the attention kernel from the loads it makes. -/
def attRow (w : Vec F S1x256 .f32) (e e2 : Vec F S32x1x256 .f32) (h : Vec F S1x31 .f32) : FVec F S1x31 .f32 :=
  logistic (addf (addf (shapeCast S1x31 h shapeCasts_S1x31_S1x31)
    (matmul dot_S1x32_S31x32_S1x31_1_1_0_0_n_n none
      (concatenate S1x32 1 [⟨S1x31, shapeCast S1x31 h shapeCasts_S1x31_S1x31⟩, ⟨S1x1, broadcast S1x1 (Scalar.ofBits .f32 0x00000000#32)⟩]
        concatenates_S1x31_S1x1_S1x32_d1) (attW (attS e)) (constant S1x31 .f32 0x00000000#32)))
    (matmul dot_S1x256_S31x256_S1x31_1_1_0_0_n_n none (shapeCast S1x256 w shapeCasts_S1x256_S1x256)
      (addf (extractStridedSlice S31x256 ![1, 0] (shapeCast S32x256 e shapeCasts_S32x1x256_S32x256) slices_S32x256_o1_0_S31x256)
        (extractStridedSlice S31x256 ![1, 0] (shapeCast S32x256 e2 shapeCasts_S32x1x256_S32x256) slices_S32x256_o1_0_S31x256))
      (constant S1x31 .f32 0x00000000#32)))

/-- A row's load of a rank-three block stays inside it. -/
theorem attInb3 (i : ℕ) (hi : i < 8) : ∀ a, (![0, i, 0] : Fin 3 → ℕ) a + S32x1x256.size a ≤ S32x8x256.size a :=
  (show ∀ i : Fin 8, ∀ a, (![0, i.val, 0] : Fin 3 → ℕ) a + S32x1x256.size a ≤ S32x8x256.size a by decide) ⟨i, hi⟩

/-- A row's load of the state scores stays inside the block. -/
theorem attInb2 (i : ℕ) (hi : i < 8) : ∀ a, (![i, 0] : Fin 2 → ℕ) a + S1x31.size a ≤ S8x31.size a :=
  (show ∀ i : Fin 8, ∀ a, (![i.val, 0] : Fin 2 → ℕ) a + S1x31.size a ≤ S8x31.size a by decide) ⟨i, hi⟩

/-- Row `i` of a block from the block's operands. -/
def attRowAt (x0 x1 : Vec F S32x8x256 .f32) (x2 : Vec F S8x31 .f32) (x3 : Vec F S1x256 .f32) (i : ℕ) (hi : i < 8) : FVec F S1x31 .f32 :=
  attRow (View.ld x3 (Rect.unit (s := S1x256) ![0, 0] S1x256.size inb_S1x256_S1x256_0_0))
    (View.ld x0 (Rect.unit (s := S32x8x256) ![0, i, 0] S32x1x256.size (attInb3 i hi)))
    (View.ld x1 (Rect.unit (s := S32x8x256) ![0, i, 0] S32x1x256.size (attInb3 i hi)))
    (View.ld x2 (Rect.unit (s := S8x31) ![i, 0] S1x31.size (attInb2 i hi)))

set_option maxHeartbeats 4000000 in
/-- The pieces of the run, over the rows. -/
theorem attPieces (c : Dev nD) (i : grid1.Coords) (arg1 : Memref sig .tc .vmem S32x8x256 .f32) (harg1 : arg1.IsWhole) (arg2 : Memref sig .tc .vmem S32x8x256 .f32) (harg2 : arg2.IsWhole) (arg3 : Memref sig .tc .vmem S8x31 .f32) (harg3 : arg3.IsWhole) (arg4 : Memref sig .tc .vmem S1x256 .f32) (harg4 : arg4.IsWhole) (arg5 : Memref sig .tc .vmem S8x32 .f32) (harg5 : arg5.IsWhole)
    (x0 : Vec F S32x8x256 .f32) (x1 : Vec F S32x8x256 .f32) (x2 : Vec F S8x31 .f32) (x3 : Vec F S1x256 .f32) :
    (kernelRun1_A c i arg1 harg1 arg2 harg2 arg3 harg3 arg4 harg4 arg5 harg5 x0 x1 x2 x3).1 = [
     ⟨Rect.unit (s := S8x32) ![7, 1] S1x31.size inb_S8x32_S1x31_7_1, attRow (View.readAt (Elt F) arg4.view (Rect.unit (s := S1x256) ![0, 0] S1x256.size inb_S1x256_S1x256_0_0).toLoadRect (harg4.unread x3))
        (View.readAt (Elt F) arg1.view (Rect.unit (s := S32x8x256) ![0, 7, 0] S32x1x256.size inb_S32x8x256_S32x1x256_0_7_0).toLoadRect (harg1.unread x0))
        (View.readAt (Elt F) arg2.view (Rect.unit (s := S32x8x256) ![0, 7, 0] S32x1x256.size inb_S32x8x256_S32x1x256_0_7_0).toLoadRect (harg2.unread x1))
        (View.readAt (Elt F) arg3.view (Rect.unit (s := S8x31) ![7, 0] S1x31.size inb_S8x31_S1x31_7_0).toLoadRect (harg3.unread x2))⟩,
     ⟨Rect.unit (s := S8x32) ![7, 0] S1x1.size inb_S8x32_S1x1_7_0, k1_pay46⟩,
     ⟨Rect.unit (s := S8x32) ![6, 1] S1x31.size inb_S8x32_S1x31_6_1, attRow (View.readAt (Elt F) arg4.view (Rect.unit (s := S1x256) ![0, 0] S1x256.size inb_S1x256_S1x256_0_0).toLoadRect (harg4.unread x3))
        (View.readAt (Elt F) arg1.view (Rect.unit (s := S32x8x256) ![0, 6, 0] S32x1x256.size inb_S32x8x256_S32x1x256_0_6_0).toLoadRect (harg1.unread x0))
        (View.readAt (Elt F) arg2.view (Rect.unit (s := S32x8x256) ![0, 6, 0] S32x1x256.size inb_S32x8x256_S32x1x256_0_6_0).toLoadRect (harg2.unread x1))
        (View.readAt (Elt F) arg3.view (Rect.unit (s := S8x31) ![6, 0] S1x31.size inb_S8x31_S1x31_6_0).toLoadRect (harg3.unread x2))⟩,
     ⟨Rect.unit (s := S8x32) ![6, 0] S1x1.size inb_S8x32_S1x1_6_0, k1_pay46⟩,
     ⟨Rect.unit (s := S8x32) ![5, 1] S1x31.size inb_S8x32_S1x31_5_1, attRow (View.readAt (Elt F) arg4.view (Rect.unit (s := S1x256) ![0, 0] S1x256.size inb_S1x256_S1x256_0_0).toLoadRect (harg4.unread x3))
        (View.readAt (Elt F) arg1.view (Rect.unit (s := S32x8x256) ![0, 5, 0] S32x1x256.size inb_S32x8x256_S32x1x256_0_5_0).toLoadRect (harg1.unread x0))
        (View.readAt (Elt F) arg2.view (Rect.unit (s := S32x8x256) ![0, 5, 0] S32x1x256.size inb_S32x8x256_S32x1x256_0_5_0).toLoadRect (harg2.unread x1))
        (View.readAt (Elt F) arg3.view (Rect.unit (s := S8x31) ![5, 0] S1x31.size inb_S8x31_S1x31_5_0).toLoadRect (harg3.unread x2))⟩,
     ⟨Rect.unit (s := S8x32) ![5, 0] S1x1.size inb_S8x32_S1x1_5_0, k1_pay46⟩,
     ⟨Rect.unit (s := S8x32) ![4, 1] S1x31.size inb_S8x32_S1x31_4_1, attRow (View.readAt (Elt F) arg4.view (Rect.unit (s := S1x256) ![0, 0] S1x256.size inb_S1x256_S1x256_0_0).toLoadRect (harg4.unread x3))
        (View.readAt (Elt F) arg1.view (Rect.unit (s := S32x8x256) ![0, 4, 0] S32x1x256.size inb_S32x8x256_S32x1x256_0_4_0).toLoadRect (harg1.unread x0))
        (View.readAt (Elt F) arg2.view (Rect.unit (s := S32x8x256) ![0, 4, 0] S32x1x256.size inb_S32x8x256_S32x1x256_0_4_0).toLoadRect (harg2.unread x1))
        (View.readAt (Elt F) arg3.view (Rect.unit (s := S8x31) ![4, 0] S1x31.size inb_S8x31_S1x31_4_0).toLoadRect (harg3.unread x2))⟩,
     ⟨Rect.unit (s := S8x32) ![4, 0] S1x1.size inb_S8x32_S1x1_4_0, k1_pay46⟩,
     ⟨Rect.unit (s := S8x32) ![3, 1] S1x31.size inb_S8x32_S1x31_3_1, attRow (View.readAt (Elt F) arg4.view (Rect.unit (s := S1x256) ![0, 0] S1x256.size inb_S1x256_S1x256_0_0).toLoadRect (harg4.unread x3))
        (View.readAt (Elt F) arg1.view (Rect.unit (s := S32x8x256) ![0, 3, 0] S32x1x256.size inb_S32x8x256_S32x1x256_0_3_0).toLoadRect (harg1.unread x0))
        (View.readAt (Elt F) arg2.view (Rect.unit (s := S32x8x256) ![0, 3, 0] S32x1x256.size inb_S32x8x256_S32x1x256_0_3_0).toLoadRect (harg2.unread x1))
        (View.readAt (Elt F) arg3.view (Rect.unit (s := S8x31) ![3, 0] S1x31.size inb_S8x31_S1x31_3_0).toLoadRect (harg3.unread x2))⟩,
     ⟨Rect.unit (s := S8x32) ![3, 0] S1x1.size inb_S8x32_S1x1_3_0, k1_pay46⟩,
     ⟨Rect.unit (s := S8x32) ![2, 1] S1x31.size inb_S8x32_S1x31_2_1, attRow (View.readAt (Elt F) arg4.view (Rect.unit (s := S1x256) ![0, 0] S1x256.size inb_S1x256_S1x256_0_0).toLoadRect (harg4.unread x3))
        (View.readAt (Elt F) arg1.view (Rect.unit (s := S32x8x256) ![0, 2, 0] S32x1x256.size inb_S32x8x256_S32x1x256_0_2_0).toLoadRect (harg1.unread x0))
        (View.readAt (Elt F) arg2.view (Rect.unit (s := S32x8x256) ![0, 2, 0] S32x1x256.size inb_S32x8x256_S32x1x256_0_2_0).toLoadRect (harg2.unread x1))
        (View.readAt (Elt F) arg3.view (Rect.unit (s := S8x31) ![2, 0] S1x31.size inb_S8x31_S1x31_2_0).toLoadRect (harg3.unread x2))⟩,
     ⟨Rect.unit (s := S8x32) ![2, 0] S1x1.size inb_S8x32_S1x1_2_0, k1_pay46⟩,
     ⟨Rect.unit (s := S8x32) ![1, 1] S1x31.size inb_S8x32_S1x31_1_1, attRow (View.readAt (Elt F) arg4.view (Rect.unit (s := S1x256) ![0, 0] S1x256.size inb_S1x256_S1x256_0_0).toLoadRect (harg4.unread x3))
        (View.readAt (Elt F) arg1.view (Rect.unit (s := S32x8x256) ![0, 1, 0] S32x1x256.size inb_S32x8x256_S32x1x256_0_1_0).toLoadRect (harg1.unread x0))
        (View.readAt (Elt F) arg2.view (Rect.unit (s := S32x8x256) ![0, 1, 0] S32x1x256.size inb_S32x8x256_S32x1x256_0_1_0).toLoadRect (harg2.unread x1))
        (View.readAt (Elt F) arg3.view (Rect.unit (s := S8x31) ![1, 0] S1x31.size inb_S8x31_S1x31_1_0).toLoadRect (harg3.unread x2))⟩,
     ⟨Rect.unit (s := S8x32) ![1, 0] S1x1.size inb_S8x32_S1x1_1_0, k1_pay46⟩,
     ⟨Rect.unit (s := S8x32) ![0, 1] S1x31.size inb_S8x32_S1x31_0_1, attRow (View.readAt (Elt F) arg4.view (Rect.unit (s := S1x256) ![0, 0] S1x256.size inb_S1x256_S1x256_0_0).toLoadRect (harg4.unread x3))
        (View.readAt (Elt F) arg1.view (Rect.unit (s := S32x8x256) ![0, 0, 0] S32x1x256.size inb_S32x8x256_S32x1x256_0_0_0).toLoadRect (harg1.unread x0))
        (View.readAt (Elt F) arg2.view (Rect.unit (s := S32x8x256) ![0, 0, 0] S32x1x256.size inb_S32x8x256_S32x1x256_0_0_0).toLoadRect (harg2.unread x1))
        (View.readAt (Elt F) arg3.view (Rect.unit (s := S8x31) ![0, 0] S1x31.size inb_S8x31_S1x31_0_0).toLoadRect (harg3.unread x2))⟩,
     ⟨Rect.unit (s := S8x32) ![0, 0] S1x1.size inb_S8x32_S1x1_0_0, k1_pay46⟩
    ] := by
  rfl

end Cert.KernelIdeal.Gen
-- ==== Proof.Ideal.AttVal.lean ====
module

public import proofs.«01_k».proof.Proof.Ideal.AttRow
public import proofs.«01_k».proof.Proof.Ideal.Run
public import Idealize.ShloMosaic.Lib.WholeRead
public import Idealize.ShloMosaic.Lib.Pipeline.ValueKit.Basic

@[expose] public section

set_option maxRecDepth 16384

noncomputable section

namespace Cert.KernelIdeal.Gen

open Idealize.ShloMosaic Idealize.ShloMosaic.TcCoe Idealize.ShloMosaic.Tactic
open Idealize.ShloMosaic.ValueIdx
open Idealize.ShloMosaic.Pipeline (Dat Cfg Window BodyObligation cellOf)

variable {F : FTy → Type} [FloatOps F]

/-! # What the attention call leaves in its result array -/

/-- A load of a whole memref at its unread contents reads the contents. -/
theorem readAt_ld {s : Shape} {e : EltTy} (m : Memref sig .tc .vmem s e) (h : m.IsWhole) (X : Vec F s e) (R : Rect s) :
    View.readAt (Elt F) m.view R.toLoadRect (h.unread X) = View.ld X R := by
  funext x; exact Memref.IsWhole.readAt_unread h X _ x

/-- The block a point leaves, from its operands: one half in the first column, the rows after it. -/
def attOut (x0 x1 : Vec F S32x8x256 .f32) (x2 : Vec F S8x31 .f32) (x3 : Vec F S1x256 .f32) : Vec F S8x32 .f32 := fun y =>
  if h : (y 1).val = 0 then Scalar.ofBits .f32 0x3F000000#32
  else attRowAt x0 x1 x2 x3 (y 0).val (y 0).isLt (ix2 0 ⟨(y 1).val - 1, by have h1 : (y 1).val < 32 := (y 1).isLt; omega⟩)

/-- A row's stored piece is the block's row after the first column. -/
theorem attOut_row (x0 x1 : Vec F S32x8x256 .f32) (x2 : Vec F S8x31 .f32) (x3 : Vec F S1x256 .f32) (i : ℕ) (hi : i < 8)
    (inb : ∀ a, (![i, 1] : Fin 2 → ℕ) a + S1x31.size a ≤ S8x32.size a) (x : S1x31.Idx) :
    attRowAt x0 x1 x2 x3 i hi x = attOut x0 x1 x2 x3 ((Rect.unit (s := S8x32) ![i, 1] S1x31.size inb).emb x) := by
  have h0 : ((Rect.unit (s := S8x32) ![i, 1] S1x31.size inb).emb x 0).val = i := by
    show i + 1 * (x 0).val = i
    have : (x 0).val < 1 := (x 0).isLt
    omega
  have h1 : ((Rect.unit (s := S8x32) ![i, 1] S1x31.size inb).emb x 1).val = 1 + (x 1).val := by
    show 1 + 1 * (x 1).val = _
    omega
  unfold attOut
  rw [dif_neg (by omega)]
  have hx : x = ix2 (0 : Fin 1) (x 1) := by
    funext a
    match a with
    | ⟨0, _⟩ => exact Fin.ext (by have : (x 0).val < 1 := (x 0).isLt; show (x 0).val = 0; omega)
    | ⟨1, _⟩ => rfl
  have key : ∀ (j : ℕ) (hj : j < 8) (z : Fin 31), j = i → z = x 1 → attRowAt x0 x1 x2 x3 i hi x = attRowAt x0 x1 x2 x3 j hj (ix2 (0 : Fin 1) z) := by
    intro j hj z e1 e2; subst e1; subst e2; exact congrArg _ hx
  exact key _ _ _ h0 (Fin.ext (by show _ - 1 = _; omega))

/-- The piece stored in the first column. -/
theorem attOut_first (x0 x1 : Vec F S32x8x256 .f32) (x2 : Vec F S8x31 .f32) (x3 : Vec F S1x256 .f32) (i : ℕ)
    (inb : ∀ a, (![i, 0] : Fin 2 → ℕ) a + S1x1.size a ≤ S8x32.size a) (x : S1x1.Idx) :
    k1_pay46 (F := F) x = attOut x0 x1 x2 x3 ((Rect.unit (s := S8x32) ![i, 0] S1x1.size inb).emb x) := by
  have h1 : ((Rect.unit (s := S8x32) ![i, 0] S1x1.size inb).emb x 1).val = 0 := by
    show 0 + 1 * (x 1).val = _
    have : (x 1).val < 1 := (x 1).isLt
    omega
  unfold attOut
  rw [dif_pos h1]
  rfl

/-- What the run leaves in the result's staging buffer. -/
theorem out1_eq (c : Dev nD) (i : grid1.Coords) (arg1 : Memref sig .tc .vmem S32x8x256 .f32) (harg1 : arg1.IsWhole) (arg2 : Memref sig .tc .vmem S32x8x256 .f32) (harg2 : arg2.IsWhole) (arg3 : Memref sig .tc .vmem S8x31 .f32) (harg3 : arg3.IsWhole) (arg4 : Memref sig .tc .vmem S1x256 .f32) (harg4 : arg4.IsWhole) (arg5 : Memref sig .tc .vmem S8x32 .f32) (harg5 : arg5.IsWhole)
    (x0 : Vec F S32x8x256 .f32) (x1 : Vec F S32x8x256 .f32) (x2 : Vec F S8x31 .f32) (x3 : Vec F S1x256 .f32) :
    out1_A_4 c i arg1 harg1 arg2 harg2 arg3 harg3 arg4 harg4 arg5 harg5 x0 x1 x2 x3 = attOut x0 x1 x2 x3 := by
  funext y
  unfold out1_A_4
  refine View.read_writes_apply_of_pieces _ _ (attOut x0 x1 x2 x3) _ ?_ y (cover1_A_4 c i arg1 harg1 arg2 harg2 arg3 harg3 arg4 harg4 arg5 harg5 x0 x1 x2 x3 y)
  rw [attPieces]
  simp only [readAt_ld, List.forall_mem_cons]
  exact ⟨fun x => attOut_row x0 x1 x2 x3 7 (by decide) _ x, fun x => attOut_first x0 x1 x2 x3 7 _ x,
    fun x => attOut_row x0 x1 x2 x3 6 (by decide) _ x, fun x => attOut_first x0 x1 x2 x3 6 _ x,
    fun x => attOut_row x0 x1 x2 x3 5 (by decide) _ x, fun x => attOut_first x0 x1 x2 x3 5 _ x,
    fun x => attOut_row x0 x1 x2 x3 4 (by decide) _ x, fun x => attOut_first x0 x1 x2 x3 4 _ x,
    fun x => attOut_row x0 x1 x2 x3 3 (by decide) _ x, fun x => attOut_first x0 x1 x2 x3 3 _ x,
    fun x => attOut_row x0 x1 x2 x3 2 (by decide) _ x, fun x => attOut_first x0 x1 x2 x3 2 _ x,
    fun x => attOut_row x0 x1 x2 x3 1 (by decide) _ x, fun x => attOut_first x0 x1 x2 x3 1 _ x,
    fun x => attOut_row x0 x1 x2 x3 0 (by decide) _ x, fun x => attOut_first x0 x1 x2 x3 0 _ x, fun _ h => absurd h List.not_mem_nil⟩

/-- The result array: one half in the first column, row `b` after it from row `b` of the operands. -/
def attAll (E E2 : Vec F S32x128x256 .f32) (H : Vec F S128x31 .f32) (w : Vec F S1x256 .f32) : Vec F S128x32 .f32 := fun y =>
  if h : (y 1).val = 0 then Scalar.ofBits .f32 0x3F000000#32
  else attRow w (fun x => E (ix3 (x 0) (y 0) (x 2))) (fun x => E2 (ix3 (x 0) (y 0) (x 2))) (fun x => H (ix2 (y 0) (x 1)))
    (ix2 0 ⟨(y 1).val - 1, by have h1 : (y 1).val < 32 := (y 1).isLt; omega⟩)

/-- The windows' block indices at each point. -/
theorem idx1 : ∀ t : Fin cfg1.N, win1_0.index t = ![0, t.val, 0] ∧ win1_1.index t = ![0, t.val, 0] ∧ win1_2.index t = ![t.val, 0]
    ∧ win1_3.index t = ![0, 0] ∧ win1_4.index t = ![t.val, 0] :=
  (by decide +kernel : ∀ t : Fin grid1.N, _)

variable (V : (c : Dev nD) → (b : Ref sig .tc) → Buf (Elt F) ((c : Thread nD τ).loc b))

/-- A block of the result is the result array read there, when the operands' blocks are the operand arrays read there. -/
theorem attOut_block (E E2 : Vec F S32x128x256 .f32) (H : Vec F S128x31 .f32) (w : Vec F S1x256 .f32)
    (x0 x1 : Vec F S32x8x256 .f32) (x2 : Vec F S8x31 .f32) (t : ℕ) (ht : t < 16)
    (h0 : ∀ (a : Fin 32) (i : Fin 8) (d : Fin 256), x0 (ix3 a i d) = E (ix3 a ⟨t * 8 + i.val, by omega⟩ d))
    (h1 : ∀ (a : Fin 32) (i : Fin 8) (d : Fin 256), x1 (ix3 a i d) = E2 (ix3 a ⟨t * 8 + i.val, by omega⟩ d))
    (h2 : ∀ (i : Fin 8) (d : Fin 31), x2 (ix2 i d) = H (ix2 ⟨t * 8 + i.val, by omega⟩ d))
    (y : S8x32.Idx) (Y : S128x32.Idx) (hY0 : (Y 0).val = t * 8 + (y 0).val) (hY1 : (Y 1).val = (y 1).val) :
    attOut x0 x1 x2 w y = attAll E E2 H w Y := by
  have hy0 : (y 0).val < 8 := (y 0).isLt
  unfold attOut attAll
  by_cases h : (y 1).val = 0
  · rw [dif_pos h, dif_pos (hY1.trans h)]
  · rw [dif_neg h, dif_neg (by omega)]
    have e0 : View.ld x0 (Rect.unit (s := S32x8x256) ![0, (y 0).val, 0] S32x1x256.size (attInb3 _ hy0)) = fun x => E (ix3 (x 0) (Y 0) (x 2)) := by
      funext x
      have hx1 : (x 1).val < 1 := (x 1).isLt
      refine Eq.trans (congrArg x0 (?_ : _ = ix3 (x 0) (y 0) (x 2))) ((h0 _ _ _).trans (congrArg E ?_))
      · funext a
        match a with
        | ⟨0, _⟩ => exact Fin.ext (by show 0 + 1 * (x 0).val = (x 0).val; omega)
        | ⟨1, _⟩ => exact Fin.ext (by show (y 0).val + 1 * (x 1).val = (y 0).val; omega)
        | ⟨2, _⟩ => exact Fin.ext (by show 0 + 1 * (x 2).val = (x 2).val; omega)
      · exact congrArg (fun b => ix3 (x 0) b (x 2)) (Fin.ext hY0.symm)
    have e1 : View.ld x1 (Rect.unit (s := S32x8x256) ![0, (y 0).val, 0] S32x1x256.size (attInb3 _ hy0)) = fun x => E2 (ix3 (x 0) (Y 0) (x 2)) := by
      funext x
      have hx1 : (x 1).val < 1 := (x 1).isLt
      refine Eq.trans (congrArg x1 (?_ : _ = ix3 (x 0) (y 0) (x 2))) ((h1 _ _ _).trans (congrArg E2 ?_))
      · funext a
        match a with
        | ⟨0, _⟩ => exact Fin.ext (by show 0 + 1 * (x 0).val = (x 0).val; omega)
        | ⟨1, _⟩ => exact Fin.ext (by show (y 0).val + 1 * (x 1).val = (y 0).val; omega)
        | ⟨2, _⟩ => exact Fin.ext (by show 0 + 1 * (x 2).val = (x 2).val; omega)
      · exact congrArg (fun b => ix3 (x 0) b (x 2)) (Fin.ext hY0.symm)
    have e2 : View.ld x2 (Rect.unit (s := S8x31) ![(y 0).val, 0] S1x31.size (attInb2 _ hy0)) = fun x => H (ix2 (Y 0) (x 1)) := by
      funext x
      have hx0 : (x 0).val < 1 := (x 0).isLt
      refine Eq.trans (congrArg x2 (?_ : _ = ix2 (y 0) (x 1))) ((h2 _ _).trans (congrArg H ?_))
      · funext a
        match a with
        | ⟨0, _⟩ => exact Fin.ext (by show (y 0).val + 1 * (x 0).val = (y 0).val; omega)
        | ⟨1, _⟩ => exact Fin.ext (by show 0 + 1 * (x 1).val = (x 1).val; omega)
      · exact congrArg (fun b => ix2 b (x 1)) (Fin.ext hY0.symm)
    have e3 : View.ld w (Rect.unit (s := S1x256) ![0, 0] S1x256.size inb_S1x256_S1x256_0_0) = w :=
      View.ld_unit_zero (funext fun a => by fin_cases a <;> rfl) _ w
    unfold attRowAt
    rw [e0, e1, e2, e3]
    exact congrArg _ (congrArg (fun z => ix2 (0 : Fin 1) z) (Fin.ext (by show _ - 1 = _ - 1; omega)))

/-- What equals a member is a member. -/
theorem mem_of_eq {α : Type} {S : Finset α} {a b : α} (e : a = b) (h : b ∈ S) : a ∈ S := e ▸ h

/-- Every entry of the attention call's result lies in a block. -/
theorem cover1 (i : S128x32.Idx) : ∃ t : Fin cfg1.N, (cfg1.win 4).flush t = true ∧ i ∈ ((cfg1.win 4).blk t).view.set := by
  have hi0 : (i 0).val < 128 := (i 0).isLt
  have hi1 : (i 1).val < 32 := (i 1).isLt
  obtain ⟨-, -, -, -, i4⟩ := idx1 ⟨(i 0).val / 8, show _ < 16 by omega⟩
  have e : i = (win1_4.rect ⟨(i 0).val / 8, show _ < 16 by omega⟩).emb (ix2 (⟨(i 0).val % 8, by omega⟩ : Fin 8) (⟨(i 1).val, hi1⟩ : Fin 32)) := by
    funext a
    refine Fin.ext ?_
    rw [Pipeline.Window.rect_emb_val win1_4]
    match a with
    | ⟨0, _⟩ => show (i 0).val = win1_4.index _ 0 * 8 + (i 0).val % 8; rw [i4]; show _ = (i 0).val / 8 * 8 + _; omega
    | ⟨1, _⟩ => show (i 1).val = win1_4.index _ 1 * 32 + (i 1).val; rw [i4]; show _ = 0 * 32 + _; omega
  refine ⟨⟨(i 0).val / 8, show _ < 16 by omega⟩, flush1_4 _, ?_⟩
  have h := View.emb_mem_set ((cfg1.win 4).blk ⟨(i 0).val / 8, show _ < 16 by omega⟩).view (ix2 (⟨(i 0).val % 8, by omega⟩ : Fin 8) (⟨(i 1).val, hi1⟩ : Fin 32))
  exact mem_of_eq e h

/-- The result array of the attention call. -/
theorem att_final (c : Dev nD) : (dat1 V c).arrAt 4 cfg1.N = attAll (V c main_v108) (V c main_v109) (V c main_v107) (V c main_v101) := by
  refine (dat1 V c).arrAt_eq_of_cover 4 _ (fun t _ => ?_) (fun i => ?_)
  · show (cfg1.win 4).cut (grid1.coords t) ((dat1 V c).after 4 t) = _
    have ht : t.val < 16 := t.isLt
    obtain ⟨i0, i1, i2, i3, i4⟩ := idx1 t
    rw [after1_4]
    unfold outsAt1
    rw [out1_eq]
    have e3 : iblk1 V c 3 t = V c main_v101 := by
      funext x
      show V c main_v101 ((win1_3.rect t).emb x) = _
      refine congrArg _ (funext fun a => Fin.ext ?_)
      rw [Pipeline.Window.rect_emb_val win1_3]
      match a with
      | ⟨0, _⟩ => show win1_3.index t 0 * 1 + (x 0).val = (x 0).val; rw [i3]; show 0 * 1 + _ = _; omega
      | ⟨1, _⟩ => show win1_3.index t 1 * 256 + (x 1).val = (x 1).val; rw [i3]; show 0 * 256 + _ = _; omega
    rw [e3]
    funext y
    show attOut _ _ _ _ y = attAll _ _ _ _ ((win1_4.rect t).emb y)
    refine attOut_block _ _ _ _ _ _ _ t.val ht ?_ ?_ ?_ y _ ?_ ?_
    · intro a i d
      show V c main_v108 ((win1_0.rect t).emb (ix3 a i d)) = _
      refine congrArg _ (funext fun a' => Fin.ext ?_)
      rw [Pipeline.Window.rect_emb_val win1_0]
      match a' with
      | ⟨0, _⟩ => show win1_0.index t 0 * 32 + a.val = a.val; rw [i0]; show 0 * 32 + _ = _; omega
      | ⟨1, _⟩ => show win1_0.index t 1 * 8 + i.val = t.val * 8 + i.val; rw [i0]; rfl
      | ⟨2, _⟩ => show win1_0.index t 2 * 256 + d.val = d.val; rw [i0]; show 0 * 256 + _ = _; omega
    · intro a i d
      show V c main_v109 ((win1_1.rect t).emb (ix3 a i d)) = _
      refine congrArg _ (funext fun a' => Fin.ext ?_)
      rw [Pipeline.Window.rect_emb_val win1_1]
      match a' with
      | ⟨0, _⟩ => show win1_1.index t 0 * 32 + a.val = a.val; rw [i1]; show 0 * 32 + _ = _; omega
      | ⟨1, _⟩ => show win1_1.index t 1 * 8 + i.val = t.val * 8 + i.val; rw [i1]; rfl
      | ⟨2, _⟩ => show win1_1.index t 2 * 256 + d.val = d.val; rw [i1]; show 0 * 256 + _ = _; omega
    · intro i d
      show V c main_v107 ((win1_2.rect t).emb (ix2 i d)) = _
      refine congrArg _ (funext fun a' => Fin.ext ?_)
      rw [Pipeline.Window.rect_emb_val win1_2]
      match a' with
      | ⟨0, _⟩ => show win1_2.index t 0 * 8 + i.val = t.val * 8 + i.val; rw [i2]; rfl
      | ⟨1, _⟩ => show win1_2.index t 1 * 31 + d.val = d.val; rw [i2]; show 0 * 31 + _ = _; omega
    · rw [Pipeline.Window.rect_emb_val win1_4]; show win1_4.index t 0 * 8 + (y 0).val = _; rw [i4]; rfl
    · rw [Pipeline.Window.rect_emb_val win1_4]; show win1_4.index t 1 * 32 + (y 1).val = _; rw [i4]; show 0 * 32 + _ = _; omega
  · exact cover1 i

/-- A whole-array window's only block is the array. -/
theorem whole_emb {s : Shape} {e : EltTy} {cs : CoreSpace} (arr : Memref sig .tc .hbm s e) (o y : Bool)
    (stage : Memref sig .tc (.core cs) ⟨s.rank, s.size⟩ e) (sem : DmaSem sig) (h1 : arr.IsWhole) (h2 : stage.IsWhole)
    (t : Fin Pipeline.Grid.none.N) (x : s.Idx) : ((Pipeline.Window.whole arr o y stage sem h1 h2).rect t).emb x = x :=
  funext fun a => Fin.ext (by show 0 * s.size a + 1 * (x a).val = (x a).val; omega)

/-- Every entry of the recurrence call's result lies in its one block. -/
theorem cover0 (i : S3968x1.Idx) : ∃ t : Fin cfg0.N, (cfg0.win 8).flush t = true ∧ i ∈ ((cfg0.win 8).blk t).view.set := by
  refine ⟨⟨0, by decide⟩, flush0_8 _, ?_⟩
  have h := View.emb_mem_set ((cfg0.win 8).blk ⟨0, by decide⟩).view i
  exact mem_of_eq (whole_emb _ _ _ _ _ (Memref.isWhole_whole main_v105) (hstage0_8 0) ⟨0, by decide⟩ i).symm h

/-- The result array of the recurrence call. -/
theorem xh_final (c : Dev nD) : (dat0 V c).arrAt 8 cfg0.N = xhOut (V c main_v91) (V c main_v93) (V c main_v104) (V c main_v94) (V c main_v95)
    (V c main_v97) (V c main_arg14) (V c main_v99) := by
  refine (dat0 V c).arrAt_eq_of_cover 8 _ (fun t _ => ?_) (fun i => cover0 i)
  show (cfg0.win 8).cut (grid0.coords t) ((dat0 V c).after 8 t) = _
  rw [after0_8]
  have e0 : iblk0 V c 0 t = V c main_v91 := funext fun x => congrArg (V c main_v91) (whole_emb _ _ _ _ _ (Memref.isWhole_whole _) (hstage0_0 0) t x)
  have e1 : iblk0 V c 1 t = V c main_v93 := funext fun x => congrArg (V c main_v93) (whole_emb _ _ _ _ _ (Memref.isWhole_whole _) (hstage0_1 0) t x)
  have e2 : iblk0 V c 2 t = V c main_v104 := funext fun x => congrArg (V c main_v104) (whole_emb _ _ _ _ _ (Memref.isWhole_whole _) (hstage0_2 0) t x)
  have e3 : iblk0 V c 3 t = V c main_v94 := funext fun x => congrArg (V c main_v94) (whole_emb _ _ _ _ _ (Memref.isWhole_whole _) (hstage0_3 0) t x)
  have e4 : iblk0 V c 4 t = V c main_v95 := funext fun x => congrArg (V c main_v95) (whole_emb _ _ _ _ _ (Memref.isWhole_whole _) (hstage0_4 0) t x)
  have e5 : iblk0 V c 5 t = V c main_v97 := funext fun x => congrArg (V c main_v97) (whole_emb _ _ _ _ _ (Memref.isWhole_whole _) (hstage0_5 0) t x)
  have e6 : iblk0 V c 6 t = V c main_arg14 := funext fun x => congrArg (V c main_arg14) (whole_emb _ _ _ _ _ (Memref.isWhole_whole _) (hstage0_6 0) t x)
  have e7 : iblk0 V c 7 t = V c main_v99 := funext fun x => congrArg (V c main_v99) (whole_emb _ _ _ _ _ (Memref.isWhole_whole _) (hstage0_7 0) t x)
  unfold outsAt0
  rw [e0, e1, e2, e3, e4, e5, e6, e7]
  exact funext fun x => congrArg (xhOut _ _ _ _ _ _ _ _) (whole_emb _ _ _ _ _ (Memref.isWhole_whole main_v105) (hstage0_8 0) t x).symm

end Cert.KernelIdeal.Gen
-- ==== Proof.Ideal.HostVal.lean ====
module

public import proofs.«01_k».proof.Proof.Ideal.AttVal
public import Idealize.ShloMosaic.Lib.StableHlo.RunRead

@[expose] public section

set_option maxRecDepth 16384

noncomputable section

namespace Cert.KernelIdeal.Gen

open Idealize.ShloMosaic Idealize.ShloMosaic.TcCoe Idealize.ShloMosaic.Tactic Idealize.ShloMosaic.StableHlo

variable {F : FTy → Type} [FloatOps F]

/-! # The kernel's host arrays as terms over the arguments -/

/-- An index below zero counted from the end of an axis of extent `n`. -/
abbrev kWrap (S : Shape) (h : S_.BroadcastsInDim S (![] : Fin 0 → Fin S.rank)) (n : BitVec 32) (i : IVec S 32) : IVec S 32 :=
  select (cmpi .slt i (broadcastInDim S ![] h (constantI S_ 32 0#32))) (addi i (broadcastInDim S ![] h (constantI S_ 32 n))) i

/-- The skills' table after one hop. -/
def kT1 (a5 : IVec S512x4 32) (a8 : FVec F S10000x256 .f32) (a9 : FVec F S512x256 .f32) : FVec F S512x256 .f32 :=
  Host.tanh (addf a9 (Host.divf (Host.reduceAdd (Host.gather gather_S10000x256_S512x4x1_S512x4x256_2_0_n_n_0_2_1256 a8
    (broadcastInDim S512x4x1 ![0, 1] bcast_S512x4_S512x4x1_0_1 (kWrap S512x4 bcast_S_S512x4 10000#32 a5)))
    (constant S_ .f32 0x00000000#32) reducesTo_S512x4x256_S512x256_d1 h_S_) (broadcastInDim S512x256 ![] bcast_S_S512x256 (constant S_ .f32 0x40800000#32))))

/-- The users' table after one hop. -/
def kT2 (a7 : IVec S4096x4 32) (a11 : FVec F S10000x256 .f32) (a10 : FVec F S4096x256 .f32) : FVec F S4096x256 .f32 :=
  Host.tanh (addf a10 (Host.divf (Host.reduceAdd (Host.gather gather_S10000x256_S4096x4x1_S4096x4x256_2_0_n_n_0_2_1256 a11
    (broadcastInDim S4096x4x1 ![0, 1] bcast_S4096x4_S4096x4x1_0_1 (kWrap S4096x4 bcast_S_S4096x4 10000#32 a7)))
    (constant S_ .f32 0x00000000#32) reducesTo_S4096x4x256_S4096x256_d1 h_S_) (broadcastInDim S4096x256 ![] bcast_S_S4096x256 (constant S_ .f32 0x40800000#32))))

/-- An argument over rows and steps, laid out by steps. -/
def kFlat (a : IVec S128x32 32) : IVec S4096 32 := shapeCast S4096 (transpose S32x128 [1, 0] a transposes_S128x32_S32x128_1_0) shapeCasts_S32x128_S4096

/-- The flat indices into an axis of extent `n`. -/
def kIdx (n : BitVec 32) (a : IVec S128x32 32) : IVec S4096x1 32 :=
  broadcastInDim S4096x1 ![0] bcast_S4096_S4096x1_0 (kWrap S4096 bcast_S_S4096 n (kFlat a))

/-- A table of 10000 rows read at the questions. -/
def kEq (a0 : IVec S128x32 32) (a8 : FVec F S10000x256 .f32) : FVec F S4096x256 .f32 :=
  Host.gather gather_S10000x256_S4096x1_S4096x256_1_0_n_n_0_1_1256 a8 (kIdx 10000#32 a0)

/-- The users' embeddings. -/
def kEu (a3 : IVec S128x32 32) (a10 : FVec F S4096x256 .f32) : FVec F S4096x256 .f32 :=
  Host.gather gather_S4096x256_S4096x1_S4096x256_1_0_n_n_0_1_1256 a10 (kIdx 4096#32 a3)

/-- The questions' neighbours. -/
def kNb (a0 : IVec S128x32 32) (a4 : IVec S10000x8 32) : IVec S4096x8 32 :=
  Host.gather gather_S10000x8_S4096x1_S4096x8_1_0_n_n_0_1_18 a4 (kIdx 10000#32 a0)

/-- The mean of the skills' table over a question's skills. -/
def kAgg1 (T : FVec F S512x256 .f32) (nb : IVec S4096x8 32) : FVec F S4096x256 .f32 :=
  Host.divf (Host.reduceAdd (Host.gather gather_S512x256_S4096x8x1_S4096x8x256_2_0_n_n_0_2_1256 T
    (broadcastInDim S4096x8x1 ![0, 1] bcast_S4096x8_S4096x8x1_0_1 (kWrap S4096x8 bcast_S_S4096x8 512#32 nb)))
    (constant S_ .f32 0x00000000#32) reducesTo_S4096x8x256_S4096x256_d1 h_S_) (broadcastInDim S4096x256 ![] bcast_S_S4096x256 (constant S_ .f32 0x41000000#32))

/-- The mean of the users' table over a question's users. -/
def kAgg2 (T : FVec F S4096x256 .f32) (nb : IVec S4096x8 32) : FVec F S4096x256 .f32 :=
  Host.divf (Host.reduceAdd (Host.gather gather_S4096x256_S4096x8x1_S4096x8x256_2_0_n_n_0_2_1256 T
    (broadcastInDim S4096x8x1 ![0, 1] bcast_S4096x8_S4096x8x1_0_1 (kWrap S4096x8 bcast_S_S4096x8 4096#32 nb)))
    (constant S_ .f32 0x00000000#32) reducesTo_S4096x8x256_S4096x256_d1 h_S_) (broadcastInDim S4096x256 ![] bcast_S_S4096x256 (constant S_ .f32 0x41000000#32))

/-- Which flat steps are masked in. -/
def kMask (a2 : IVec S128x32 32) : IVec S4096x1 1 :=
  broadcastInDim S4096x1 ![0] bcast_S4096_S4096x1_0 (cmpi .eq (kFlat a2) (broadcastInDim S4096 ![] bcast_S_S4096 (constantI S_ 32 1#32)))

/-- The first operand of the recurrence call. -/
def kX1 (eq agg eu : FVec F S4096x256 .f32) (mk : IVec S4096x1 1) : FVec F S4096x256 .f32 :=
  addf (select (broadcastInDim S4096x256 ![0, 1] bcast_S4096x1_S4096x256_0_1 mk) (Host.tanh (addf eq agg)) eq) eu

/-- The second operand of the recurrence call. -/
def kX2 (eq2 agg : FVec F S4096x256 .f32) : FVec F S4096x256 .f32 := Host.tanh (addf eq2 agg)

/-- The responses as floats, laid out by steps. -/
def kResp (a1 : IVec S128x32 32) : FVec F S4096x1 .f32 :=
  sitofp .f32 (shapeCast S4096x1 (transpose S32x128 [1, 0] a1 transposes_S128x32_S32x128_1_0) shapeCasts_S32x128_S4096x1)

/-- The responses' part of the inputs, for either response. -/
def kR (a12 : FVec F S2x256 .f32) (a13 : FVec F S768x256 .f32) : FVec F S2x256 .f32 :=
  Host.dotGeneral dot_S2x256_S256x256_S2x256_1_0_0_1_n_n none a12 (extractStridedSlice S256x256 ![512, 0] a13 slices_S768x256_S256x256_512_0)

/-- The prediction weights of the states, and of the embeddings. -/
def kw1 (a15 : FVec F S512 .f32) : FVec F S1x256 .f32 := shapeCast S1x256 (extractStridedSlice S256 ![0] a15 slices_S512_S256_0) shapeCasts_S256_S1x256
/-- The second half of the prediction weights, as a row. -/
def kw2 (a15 : FVec F S512 .f32) : FVec F S1x256 .f32 := shapeCast S1x256 (extractStridedSlice S256 ![256] a15 slices_S512_S256_256) shapeCasts_S256_S1x256

/-- The recurrence call's operands over the arguments. -/
def kXin1 (a0 a2 a3 : IVec S128x32 32) (a4 : IVec S10000x8 32) (a5 : IVec S512x4 32) (a8 : FVec F S10000x256 .f32) (a9 : FVec F S512x256 .f32)
    (a10 : FVec F S4096x256 .f32) : FVec F S4096x256 .f32 :=
  kX1 (kEq a0 a8) (kAgg1 (kT1 a5 a8 a9) (kNb a0 a4)) (kEu a3 a10) (kMask a2)
/-- The second input of the recurrence, from the question-user graph. -/
def kXin2 (a0 : IVec S128x32 32) (a6 : IVec S10000x8 32) (a7 : IVec S4096x4 32) (a10 : FVec F S4096x256 .f32) (a11 : FVec F S10000x256 .f32) : FVec F S4096x256 .f32 :=
  kX2 (kEq a0 a11) (kAgg2 (kT2 a7 a11 a10) (kNb a0 a6))

/-- What the recurrence call leaves, over the arguments. -/
def kHw (a0 a1 a2 a3 : IVec S128x32 32) (a4 : IVec S10000x8 32) (a5 : IVec S512x4 32) (a6 : IVec S10000x8 32) (a7 : IVec S4096x4 32)
    (a8 : FVec F S10000x256 .f32) (a9 : FVec F S512x256 .f32) (a10 : FVec F S4096x256 .f32) (a11 : FVec F S10000x256 .f32)
    (a12 : FVec F S2x256 .f32) (a13 : FVec F S768x256 .f32) (a14 : FVec F S256x256 .f32) (a15 : FVec F S512 .f32) : FVec F S3968x1 .f32 :=
  xhOut (kXin1 a0 a2 a3 a4 a5 a8 a9 a10) (kXin2 a0 a6 a7 a10 a11) (kResp a1)
    (extractStridedSlice S256x256 ![0, 0] a13 slices_S768x256_S256x256_0_0) (extractStridedSlice S256x256 ![256, 0] a13 slices_S768x256_S256x256_256_0)
    (kR a12 a13) a14 (kw1 a15)

/-- The kernel's result over the arguments. -/
def kOut (a0 a1 a2 a3 : IVec S128x32 32) (a4 : IVec S10000x8 32) (a5 : IVec S512x4 32) (a6 : IVec S10000x8 32) (a7 : IVec S4096x4 32)
    (a8 : FVec F S10000x256 .f32) (a9 : FVec F S512x256 .f32) (a10 : FVec F S4096x256 .f32) (a11 : FVec F S10000x256 .f32)
    (a12 : FVec F S2x256 .f32) (a13 : FVec F S768x256 .f32) (a14 : FVec F S256x256 .f32) (a15 : FVec F S512 .f32) : FVec F S128x32 .f32 :=
  attAll (shapeCast S32x128x256 (kEq a0 a8) shapeCasts_S4096x256_S32x128x256) (shapeCast S32x128x256 (kEq a0 a11) shapeCasts_S4096x256_S32x128x256)
    (transpose S128x31 [1, 0] (shapeCast S31x128 (kHw a0 a1 a2 a3 a4 a5 a6 a7 a8 a9 a10 a11 a12 a13 a14 a15) shapeCasts_S3968x1_S31x128) transposes_S31x128_S128x31_1_0)
    (kw2 a15)

variable (m : (ℓ : Loc nD τ sig) → Buf (Elt F) ℓ) (ρ : Dev nD → PrngReg)

/-- The array of its name, when the recurrence call starts. -/
theorem W3_v91 (c : Dev nD) : W3 m ρ c (Proc.devRef .tc main_v91) = kXin1 (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg8)) (m ((c : Thread nD τ).loc main_arg9)) (m ((c : Thread nD τ).loc main_arg10)) := by
  after_reads_simp
  rfl

/-- The array of its name, when the recurrence call starts. -/
theorem W3_v93 (c : Dev nD) : W3 m ρ c (Proc.devRef .tc main_v93) = kXin2 (m ((c : Thread nD τ).loc main_arg0)) (m ((c : Thread nD τ).loc main_arg6)) (m ((c : Thread nD τ).loc main_arg7)) (m ((c : Thread nD τ).loc main_arg10)) (m ((c : Thread nD τ).loc main_arg11)) := by
  after_reads_simp
  rfl

/-- The array of its name, when the recurrence call starts. -/
theorem W3_v104 (c : Dev nD) : W3 m ρ c (Proc.devRef .tc main_v104) = kResp (m ((c : Thread nD τ).loc main_arg1)) := by
  after_reads_simp
  rfl

/-- The array of its name, when the recurrence call starts. -/
theorem W3_v94 (c : Dev nD) : W3 m ρ c (Proc.devRef .tc main_v94) = extractStridedSlice S256x256 ![0, 0] (m ((c : Thread nD τ).loc main_arg13)) slices_S768x256_S256x256_0_0 := by
  after_reads_simp

/-- The array of its name, when the recurrence call starts. -/
theorem W3_v95 (c : Dev nD) : W3 m ρ c (Proc.devRef .tc main_v95) = extractStridedSlice S256x256 ![256, 0] (m ((c : Thread nD τ).loc main_arg13)) slices_S768x256_S256x256_256_0 := by
  after_reads_simp

/-- The array of its name, when the recurrence call starts. -/
theorem W3_v97 (c : Dev nD) : W3 m ρ c (Proc.devRef .tc main_v97) = kR (m ((c : Thread nD τ).loc main_arg12)) (m ((c : Thread nD τ).loc main_arg13)) := by
  after_reads_simp
  rfl

/-- The array of its name, when the recurrence call starts. -/
theorem W3_v99 (c : Dev nD) : W3 m ρ c (Proc.devRef .tc main_v99) = kw1 (m ((c : Thread nD τ).loc main_arg15)) := by
  after_reads_simp
  rfl

/-- The array of its name, when the recurrence call starts. -/
theorem W3_v101 (c : Dev nD) : W3 m ρ c (Proc.devRef .tc main_v101) = kw2 (m ((c : Thread nD τ).loc main_arg15)) := by
  after_reads_simp
  rfl

/-- The array of its name, when the recurrence call starts. -/
theorem W3_v36 (c : Dev nD) : W3 m ρ c (Proc.devRef .tc main_v36) = kEq (m ((c : Thread nD τ).loc main_arg0)) (m ((c : Thread nD τ).loc main_arg8)) := by
  after_reads_simp
  rfl

/-- The array of its name, when the recurrence call starts. -/
theorem W3_v43 (c : Dev nD) : W3 m ρ c (Proc.devRef .tc main_v43) = kEq (m ((c : Thread nD τ).loc main_arg0)) (m ((c : Thread nD τ).loc main_arg11)) := by
  after_reads_simp
  rfl

/-- The state scores, when the recurrence call has ended. -/
theorem W4_v105 (c : Dev nD) : W4 m ρ c (Proc.devRef .tc main_v105) = kHw (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := by
  refine (W4_arr m ρ c 8).trans ((xh_final (V3 m ρ) c).trans ?_)
  show xhOut (W3 m ρ c (Proc.devRef .tc main_v91)) (W3 m ρ c (Proc.devRef .tc main_v93)) (W3 m ρ c (Proc.devRef .tc main_v104)) (W3 m ρ c (Proc.devRef .tc main_v94))
    (W3 m ρ c (Proc.devRef .tc main_v95)) (W3 m ρ c (Proc.devRef .tc main_v97)) (W3 m ρ c (Proc.devRef .tc main_arg14)) (W3 m ρ c (Proc.devRef .tc main_v99)) = _
  rw [W3_v91, W3_v93, W3_v104, W3_v94, W3_v95, W3_v97, W3_v99, W3_args m ρ c main_arg14 (by decide)]
  rfl

/-- The result array. -/
theorem W6_v110 (c : Dev nD) : W6 m ρ c (Proc.devRef .tc main_v110) = kOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := by
  refine (W6_arr m ρ c 4).trans ((att_final (V5 m ρ) c).trans ?_)
  have h107 : W5 m ρ c (Proc.devRef .tc main_v107) = transpose S128x31 [1, 0] (shapeCast S31x128 (W4 m ρ c (Proc.devRef .tc main_v105)) shapeCasts_S3968x1_S31x128) transposes_S31x128_S128x31_1_0 := by
    after_reads_simp
    rfl
  have h108 : W5 m ρ c (Proc.devRef .tc main_v108) = shapeCast S32x128x256 (W4 m ρ c (Proc.devRef .tc main_v36)) shapeCasts_S4096x256_S32x128x256 := by
    after_reads_simp
    rfl
  have h109 : W5 m ρ c (Proc.devRef .tc main_v109) = shapeCast S32x128x256 (W4 m ρ c (Proc.devRef .tc main_v43)) shapeCasts_S4096x256_S32x128x256 := by
    after_reads_simp
    rfl
  have h101 : W5 m ρ c (Proc.devRef .tc main_v101) = kw2 (m ((c : Thread nD τ).loc main_arg15)) :=
    (W5_of m ρ c main_v101 (by decide)).trans ((W4_of m ρ c main_v101 (by decide)).trans (W3_v101 m ρ c))
  rw [W4_v105] at h107
  rw [W4_of m ρ c main_v36 (by decide), W3_v36] at h108
  rw [W4_of m ρ c main_v43 (by decide), W3_v43] at h109
  show attAll (W5 m ρ c (Proc.devRef .tc main_v108)) (W5 m ρ c (Proc.devRef .tc main_v109)) (W5 m ρ c (Proc.devRef .tc main_v107)) (W5 m ρ c (Proc.devRef .tc main_v101)) = _
  rw [h107, h108, h109, h101]
  rfl

end Cert.KernelIdeal.Gen
-- ==== Proof.Math.Gather.lean ====
module

public import Idealize.ShloMosaic.Lib.Pointwise.Tactic
public import Idealize.ShloMosaic.Lib.Pointwise.Reduce
public import Idealize.ShloMosaic.Lib.Pointwise.Reshape
public import Idealize.ShloMosaic.Lib.Pointwise.Contract
public import Idealize.ShloMosaic.Lib.Pointwise.Sums
public import Idealize.ShloMosaic.Lib.Pointwise.Select

@[expose] public section

namespace Cert.Recap

open Idealize.ShloMosaic

/-! # Rows of a table taken by indices -/

/-- The row of a table of `N` rows that an index selects: the index clamped into the table. -/
def rowAt {w : ℕ} (N : ℕ) (hN : 0 < N) (i : BitVec w) : Fin N := ⟨min i.toInt.toNat (N - 1), by omega⟩

/-- An index below zero counts from the end of an axis of extent `n`. -/
def wrapI (n i : BitVec 32) : BitVec 32 := Scalar.select (IntOp.cmpi .slt i 0#32) (IntOp.addi i n) i

/-- A gather reads its operand at the index whose coordinates are the sums of its three parts. -/
theorem gather_at {α : Type} {w : ℕ} {s si t : Shape} (d : GatherDims s si t) (x : s.Idx → α) (idx : IVec si w) (y : t.Idx) (k : s.Idx)
    (h : ∀ a, d.start y idx a + d.batchCoord y a + d.offCoord y a = (k a).val) : Host.gather d x idx y = x k :=
  congrArg x (funext fun a => Fin.ext (h a))

/-- The start on an axis that the start index map names alone. -/
theorem start_single {w : ℕ} {s si t : Shape} (d : GatherDims s si t) (idx : IVec si w) (y : t.Idx) (a : Fin s.rank)
    (hm : d.startIndexMap = [a]) (k : si.Idx) (hk : ∀ h, d.siIdx y ⟨0, h⟩ = k) :
    d.start y idx a = min (idx k).toInt.toNat (s.size a - d.sliceSizes a) := by
  have h0 : d.startIndexMap.idxOf a = 0 := by rw [hm]; simp
  unfold GatherDims.start
  rw [dif_pos (by rw [hm]; exact List.mem_singleton.mpr rfl)]
  have e : ∀ (n : ℕ) (hn : n < d.startIndexMap.length), n = 0 → d.siIdx y ⟨n, hn⟩ = k := by
    intro n hn h; subst h; exact hk hn
  rw [e _ _ h0]

/-- Rows of a table taken along its first axis. -/
theorem gather_rows {α : Type} {w N D : ℕ} {si t : Shape} (d : GatherDims ⟨2, ![N, D]⟩ si t) (x : (⟨2, ![N, D]⟩ : Shape).Idx → α) (idx : IVec si w)
    (y : t.Idx) (hN : 0 < N) (hm : d.startIndexMap = [0]) (hc : d.collapsedSliceDims = [0]) (hb : d.operandBatchingDims = [])
    (hz : d.sliceSizes 0 = 1) (k : si.Idx) (hk : ∀ h, d.siIdx y ⟨0, h⟩ = k) (e : Fin D) (he : d.offCoord y 1 = e.val) :
    Host.gather d x idx y = x (ix2 (rowAt N hN (idx k)) e) := by
  refine gather_at d x idx y _ fun a => ?_
  rw [GatherDims.batchCoord_eq_zero _ _ _ (by rw [hb]; exact List.not_mem_nil)]
  match a with
  | ⟨0, _⟩ =>
    rw [show (⟨0, _⟩ : Fin (⟨2, ![N, D]⟩ : Shape).rank) = 0 from rfl, start_single d idx y 0 hm k hk,
      GatherDims.offCoord_eq_zero _ _ _ (fun h => ((GatherDims.mem_sKept _ _).mp h).1 (by rw [hc]; exact List.mem_singleton.mpr rfl)), hz]
    rfl
  | ⟨1, _⟩ =>
    rw [show (⟨1, _⟩ : Fin (⟨2, ![N, D]⟩ : Shape).rank) = 1 from rfl, he]
    unfold GatherDims.start
    rw [dif_neg (by rw [hm]; exact fun h => absurd (List.mem_singleton.mp h) (by simp))]
    exact (Nat.zero_add _).trans rfl

end Cert.Recap
-- ==== Proof.Math.Spec.lean ====
module

public import proofs.«01_k».proof.Proof.Math.Gather

@[expose] public section

noncomputable section

namespace Cert.Recap

open Idealize.ShloMosaic

/-! # The operands of the recurrence, index by index

Both programs read the same tables at the same rows; the functions below say which. -/

/-- A matrix of extended reals. -/
abbrev Mat (n k : ℕ) := (⟨2, ![n, k]⟩ : Shape).Idx → EReal
/-- A matrix of 32-bit integers. -/
abbrev IMat (n k : ℕ) := (⟨2, ![n, k]⟩ : Shape).Idx → BitVec 32

/-- The table row an index selects, the index wrapped and clamped. -/
abbrev rowW (N : ℕ) (hN : 0 < N) (n i : BitVec 32) : Fin N := rowAt N hN (wrapI n i)

/-- The question embedding of step `t` of row `b`. -/
def sEq (a0 : IMat 128 32) (a8 : Mat 10000 256) (b : Fin 128) (t : Fin 32) (d : Fin 256) : EReal :=
  a8 (ix2 (rowW 10000 (by decide) 10000#32 (a0 (ix2 b t))) d)

/-- A table after one hop: its entry plus the mean of its four neighbours' embeddings, squashed. -/
def sTab {N : ℕ} (a5 : IMat N 4) (a8 : Mat 10000 256) (a9 : Mat N 256) (s : Fin N) (d : Fin 256) : EReal :=
  Ideal.tanh (a9 (ix2 s d) + Ideal.div (∑ k : Fin 4, a8 (ix2 (rowW 10000 (by decide) 10000#32 (a5 (ix2 s k))) d)) (Ideal.ofBits FTy.f32 0x40800000#32))

/-- A neighbour of the question of step `t` of row `b`. -/
def sNb (a0 : IMat 128 32) (a4 : IMat 10000 8) (b : Fin 128) (t : Fin 32) (j : Fin 8) : BitVec 32 :=
  a4 (ix2 (rowW 10000 (by decide) 10000#32 (a0 (ix2 b t))) j)

/-- The mean of a table over a question's neighbours. -/
def sAgg {N : ℕ} (hN : 0 < N) (n : BitVec 32) (T : Fin N → Fin 256 → EReal) (a0 : IMat 128 32) (a4 : IMat 10000 8) (b : Fin 128) (t : Fin 32) (d : Fin 256) : EReal :=
  Ideal.div (∑ j : Fin 8, T (rowW N hN n (sNb a0 a4 b t j)) d) (Ideal.ofBits FTy.f32 0x41000000#32)

/-- The first operand: the question, aggregated where the mask is set, plus the user. -/
def sX1 (a0 a2 a3 : IMat 128 32) (a4 : IMat 10000 8) (a5 : IMat 512 4) (a8 : Mat 10000 256) (a9 : Mat 512 256) (a10 : Mat 4096 256)
    (b : Fin 128) (t : Fin 32) (d : Fin 256) : EReal :=
  (if a2 (ix2 b t) = 1#32 then Ideal.tanh (sEq a0 a8 b t d + sAgg (by decide) 512#32 (sTab a5 a8 a9) a0 a4 b t d) else sEq a0 a8 b t d)
    + a10 (ix2 (rowW 4096 (by decide) 4096#32 (a3 (ix2 b t))) d)

/-- The second operand: the question's other embedding, aggregated over users. -/
def sX2 (a0 : IMat 128 32) (a6 : IMat 10000 8) (a7 : IMat 4096 4) (a10 : Mat 4096 256) (a11 : Mat 10000 256)
    (b : Fin 128) (t : Fin 32) (d : Fin 256) : EReal :=
  Ideal.tanh (sEq a0 a11 b t d + sAgg (by decide) 4096#32 (sTab a7 a11 a10) a0 a6 b t d)

/-- The three parts of a step's input: the two operands through their rows of the input weights, and the response's embedding through its own. -/
def sX (x1 x2 : Fin 128 → Fin 32 → Fin 256 → EReal) (a1 : IMat 128 32) (a12 : Mat 2 256) (a13 : Mat 768 256) (b : Fin 128) (t : Fin 32) (d : Fin 256) : EReal :=
  (∑ k : Fin 256, x1 b t k * a13 (ix2 ⟨k.val, by omega⟩ d)) + (∑ k : Fin 256, x2 b t k * a13 (ix2 ⟨256 + k.val, by omega⟩ d))
    + ∑ k : Fin 256, a12 (ix2 (rowW 2 (by decide) 2#32 (a1 (ix2 b t))) k) * a13 (ix2 ⟨512 + k.val, by omega⟩ d)

/-- The states: the input of step `t` plus the previous state through the recurrent weights, squashed. -/
def sSt (X : Fin 128 → Fin 32 → Fin 256 → EReal) (wh : Mat 256 256) : ℕ → Fin 128 → Fin 256 → EReal
  | 0 => fun _ _ => 0
  | n + 1 => fun b d => if h : n < 32 then Ideal.tanh (X b ⟨n, h⟩ d + ∑ k : Fin 256, sSt X wh n b k * wh (ix2 k d)) else 0

/-- A selection on an integer equality is the `if`. -/
theorem select_eq {α : Type} {w : ℕ} (i j : BitVec w) (x y : α) : Scalar.select (IntOp.cmpi .eq i j) x y = if i = j then x else y := by
  by_cases h : i = j
  · subst h; simp [Scalar.select, IntOp.cmpi]
  · have e : (i == j) = false := beq_eq_false_iff_ne.mpr h
    rw [if_neg h]; simp [Scalar.select, IntOp.cmpi, e]

/-- A selection on a decided proposition is the `if`. -/
theorem select_ofBool {α : Type} (p : Prop) [Decidable p] (x y : α) : Scalar.select (BitVec.ofBool (decide p)) x y = if p then x else y := by
  by_cases h : p
  · rw [if_pos h, decide_eq_true h]; rfl
  · rw [if_neg h, decide_eq_false h]; rfl

end Cert.Recap
-- ==== Proof.Ref.InIdx.lean ====
module

public import proofs.«01_k».proof.Proof.Gen.ReferenceIdeal.Run
public import proofs.«01_k».proof.Proof.Math.Spec
public import Idealize.ShloMosaic.Lib.Pipeline.Value

@[expose] public section

set_option maxRecDepth 16384

noncomputable section

namespace Cert.ReferenceIdeal.Value

open Cert.ReferenceIdeal Cert.ReferenceIdeal.Gen Idealize.ShloMosaic Idealize.ShloMosaic.TcCoe
open Cert.Recap

/-! # The reference's inputs of the recurrence at an index -/

/-- The arguments a run starts from. -/
abbrev Vals := Valuation τ sig (Elt Ideal)

/-- An index of rank three from its coordinates. -/
theorem ix3_of {n k l : ℕ} (x : (⟨3, ![n, k, l]⟩ : Shape).Idx) (i : Fin n) (j : Fin k) (m : Fin l) (h0 : x 0 = i) (h1 : x 1 = j) (h2 : x 2 = m) :
    x = ix3 i j m := by
  funext a
  match a with
  | ⟨0, _⟩ => exact h0
  | ⟨1, _⟩ => exact h1
  | ⟨2, _⟩ => exact h2

/-- An index of rank four from its coordinates. -/
theorem ix4_of {n k l p : ℕ} (x : (⟨4, ![n, k, l, p]⟩ : Shape).Idx) (i : Fin n) (j : Fin k) (m : Fin l) (o : Fin p) (h0 : x 0 = i) (h1 : x 1 = j)
    (h2 : x 2 = m) (h3 : x 3 = o) : x = ix4 i j m o := by
  funext a
  match a with
  | ⟨0, _⟩ => exact h0
  | ⟨1, _⟩ => exact h1
  | ⟨2, _⟩ => exact h2
  | ⟨3, _⟩ => exact h3

/-- Wrapped step indices, read. -/
theorem idx2 (n : BitVec 32) (i : IVec S128x32 32) (b : Fin 128) (t : Fin 32) :
    broadcastInDim S128x32x1 ![0, 1] bcast_S128x32_S128x32x1_0_1 (select (cmpi .slt i (broadcastInDim S128x32 ![] bcast_S_S128x32 (constantI S_ 32 0#32)))
      (addi i (broadcastInDim S128x32 ![] bcast_S_S128x32 (constantI S_ 32 n))) i) (ix3 b t 0) = wrapI n (i (ix2 b t)) := by
  pointwise
  rfl

/-- Wrapped neighbour indices, read. -/
theorem idx3 (n : BitVec 32) (i : IVec S128x32x8 32) (b : Fin 128) (t : Fin 32) (j : Fin 8) :
    broadcastInDim S128x32x8x1 ![0, 1, 2] bcast_S128x32x8_S128x32x8x1_0_1_2 (select (cmpi .slt i (broadcastInDim S128x32x8 ![] bcast_S_S128x32x8 (constantI S_ 32 0#32)))
      (addi i (broadcastInDim S128x32x8 ![] bcast_S_S128x32x8 (constantI S_ 32 n))) i) (ix4 b t j 0) = wrapI n (i (ix3 b t j)) := by
  pointwise
  rfl

/-- Questions' rows of a table, read. -/
theorem gatherQ (a : FVec Ideal S10000x256 .f32) (i : IVec S128x32 32) (b : Fin 128) (t : Fin 32) (d : Fin 256) :
    Host.gather gather_S10000x256_S128x32x1_S128x32x256_2_0_n_n_0_2_1256 a (broadcastInDim S128x32x1 ![0, 1] bcast_S128x32_S128x32x1_0_1 (select (cmpi .slt i (broadcastInDim S128x32 ![] bcast_S_S128x32 (constantI S_ 32 0#32)))
      (addi i (broadcastInDim S128x32 ![] bcast_S_S128x32 (constantI S_ 32 10000#32))) i)) (ix3 b t d) = sEq i a b t d := by
  rw [gather_rows gather_S10000x256_S128x32x1_S128x32x256_2_0_n_n_0_2_1256 a _ _ (by decide) rfl rfl rfl rfl (ix3 b t 0)
    (fun h => ix3_of _ _ _ _ rfl rfl rfl) d rfl, idx2]
  rfl

/-- The question embeddings, read. -/
theorem v39_apply (V : Vals) (b : Fin 128) (t : Fin 32) (d : Fin 256) :
    res_main_v39 V (ix3 b t d) = sEq (V (Proc.devRef .tc main_arg0)) (V (Proc.devRef .tc main_arg8)) b t d := gatherQ _ _ b t d

/-- The questions' other embeddings, read. -/
theorem v88_apply (V : Vals) (b : Fin 128) (t : Fin 32) (d : Fin 256) :
    res_main_v88 V (ix3 b t d) = sEq (V (Proc.devRef .tc main_arg0)) (V (Proc.devRef .tc main_arg11)) b t d := gatherQ _ _ b t d

/-- Questions' neighbours, read. -/
theorem gatherN (a : IVec S10000x8 32) (i : IVec S128x32 32) (b : Fin 128) (t : Fin 32) (j : Fin 8) :
    Host.gather gather_S10000x8_S128x32x1_S128x32x8_2_0_n_n_0_2_18 a (broadcastInDim S128x32x1 ![0, 1] bcast_S128x32_S128x32x1_0_1 (select (cmpi .slt i (broadcastInDim S128x32 ![] bcast_S_S128x32 (constantI S_ 32 0#32)))
      (addi i (broadcastInDim S128x32 ![] bcast_S_S128x32 (constantI S_ 32 10000#32))) i)) (ix3 b t j) = sNb i a b t j := by
  rw [gather_rows gather_S10000x8_S128x32x1_S128x32x8_2_0_n_n_0_2_18 a _ _ (by decide) rfl rfl rfl rfl (ix3 b t 0)
    (fun h => ix3_of _ _ _ _ rfl rfl rfl) j rfl, idx2]
  rfl

/-- The first graph's neighbours, read. -/
theorem v6_apply (V : Vals) (b : Fin 128) (t : Fin 32) (j : Fin 8) :
    res_main_v6 V (ix3 b t j) = sNb (V (Proc.devRef .tc main_arg0)) (V (Proc.devRef .tc main_arg4)) b t j := gatherN _ _ b t j

/-- The second graph's neighbours, read. -/
theorem v55_apply (V : Vals) (b : Fin 128) (t : Fin 32) (j : Fin 8) :
    res_main_v55 V (ix3 b t j) = sNb (V (Proc.devRef .tc main_arg0)) (V (Proc.devRef .tc main_arg6)) b t j := gatherN _ _ b t j

/-- The skills' neighbours, read. -/
theorem v20_apply (V : Vals) (b : Fin 128) (t : Fin 32) (j : Fin 8) (k : Fin 4) :
    res_main_v20 V (ix4 b t j k) = V (Proc.devRef .tc main_arg5)
      (ix2 (rowW 512 (by decide) 512#32 (sNb (V (Proc.devRef .tc main_arg0)) (V (Proc.devRef .tc main_arg4)) b t j)) k) := by
  unfold res_main_v20
  rw [gather_rows gather_S512x4_S128x32x8x1_S128x32x8x4_3_0_n_n_0_3_14 _ _ _ (by decide) rfl rfl rfl rfl (ix4 b t j 0)
    (fun h => ix4_of _ _ _ _ _ rfl rfl rfl rfl) k rfl, idx3, v6_apply]

/-- The users' neighbours, read. -/
theorem v69_apply (V : Vals) (b : Fin 128) (t : Fin 32) (j : Fin 8) (k : Fin 4) :
    res_main_v69 V (ix4 b t j k) = V (Proc.devRef .tc main_arg7)
      (ix2 (rowW 4096 (by decide) 4096#32 (sNb (V (Proc.devRef .tc main_arg0)) (V (Proc.devRef .tc main_arg6)) b t j)) k) := by
  unfold res_main_v69
  rw [gather_rows gather_S4096x4_S128x32x8x1_S128x32x8x4_3_0_n_n_0_3_14 _ _ _ (by decide) rfl rfl rfl rfl (ix4 b t j 0)
    (fun h => ix4_of _ _ _ _ _ rfl rfl rfl rfl) k rfl, idx3, v55_apply]

/-- Users' rows of a table, read. -/
theorem gatherU (a : FVec Ideal S4096x256 .f32) (i : IVec S128x32 32) (b : Fin 128) (t : Fin 32) (d : Fin 256) :
    Host.gather gather_S4096x256_S128x32x1_S128x32x256_2_0_n_n_0_2_1256 a (broadcastInDim S128x32x1 ![0, 1] bcast_S128x32_S128x32x1_0_1 (select (cmpi .slt i (broadcastInDim S128x32 ![] bcast_S_S128x32 (constantI S_ 32 0#32)))
      (addi i (broadcastInDim S128x32 ![] bcast_S_S128x32 (constantI S_ 32 4096#32))) i)) (ix3 b t d) = a (ix2 (rowW 4096 (by decide) 4096#32 (i (ix2 b t))) d) := by
  rw [gather_rows gather_S4096x256_S128x32x1_S128x32x256_2_0_n_n_0_2_1256 a _ _ (by decide) rfl rfl rfl rfl (ix3 b t 0)
    (fun h => ix3_of _ _ _ _ rfl rfl rfl) d rfl, idx2]

/-- Responses' rows of a table, read. -/
theorem gatherR (a : FVec Ideal S2x256 .f32) (i : IVec S128x32 32) (b : Fin 128) (t : Fin 32) (d : Fin 256) :
    Host.gather gather_S2x256_S128x32x1_S128x32x256_2_0_n_n_0_2_1256 a (broadcastInDim S128x32x1 ![0, 1] bcast_S128x32_S128x32x1_0_1 (select (cmpi .slt i (broadcastInDim S128x32 ![] bcast_S_S128x32 (constantI S_ 32 0#32)))
      (addi i (broadcastInDim S128x32 ![] bcast_S_S128x32 (constantI S_ 32 2#32))) i)) (ix3 b t d) = a (ix2 (rowW 2 (by decide) 2#32 (i (ix2 b t))) d) := by
  rw [gather_rows gather_S2x256_S128x32x1_S128x32x256_2_0_n_n_0_2_1256 a _ _ (by decide) rfl rfl rfl rfl (ix3 b t 0)
    (fun h => ix3_of _ _ _ _ rfl rfl rfl) d rfl, idx2]

/-- Skills' rows of a table, read. -/
theorem gatherS (a : FVec Ideal S512x256 .f32) (i : IVec S128x32x8 32) (b : Fin 128) (t : Fin 32) (j : Fin 8) (d : Fin 256) :
    Host.gather gather_S512x256_S128x32x8x1_S128x32x8x256_3_0_n_n_0_3_1256 a (broadcastInDim S128x32x8x1 ![0, 1, 2] bcast_S128x32x8_S128x32x8x1_0_1_2 (select (cmpi .slt i (broadcastInDim S128x32x8 ![] bcast_S_S128x32x8 (constantI S_ 32 0#32)))
      (addi i (broadcastInDim S128x32x8 ![] bcast_S_S128x32x8 (constantI S_ 32 512#32))) i)) (ix4 b t j d) = a (ix2 (rowW 512 (by decide) 512#32 (i (ix3 b t j))) d) := by
  rw [gather_rows gather_S512x256_S128x32x8x1_S128x32x8x256_3_0_n_n_0_3_1256 a _ _ (by decide) rfl rfl rfl rfl (ix4 b t j 0)
    (fun h => ix4_of _ _ _ _ _ rfl rfl rfl rfl) d rfl, idx3]

/-- Neighbouring users' rows of a table, read. -/
theorem gatherW (a : FVec Ideal S4096x256 .f32) (i : IVec S128x32x8 32) (b : Fin 128) (t : Fin 32) (j : Fin 8) (d : Fin 256) :
    Host.gather gather_S4096x256_S128x32x8x1_S128x32x8x256_3_0_n_n_0_3_1256 a (broadcastInDim S128x32x8x1 ![0, 1, 2] bcast_S128x32x8_S128x32x8x1_0_1_2 (select (cmpi .slt i (broadcastInDim S128x32x8 ![] bcast_S_S128x32x8 (constantI S_ 32 0#32)))
      (addi i (broadcastInDim S128x32x8 ![] bcast_S_S128x32x8 (constantI S_ 32 4096#32))) i)) (ix4 b t j d) = a (ix2 (rowW 4096 (by decide) 4096#32 (i (ix3 b t j))) d) := by
  rw [gather_rows gather_S4096x256_S128x32x8x1_S128x32x8x256_3_0_n_n_0_3_1256 a _ _ (by decide) rfl rfl rfl rfl (ix4 b t j 0)
    (fun h => ix4_of _ _ _ _ _ rfl rfl rfl rfl) d rfl, idx3]

/-- An index of rank five from its coordinates. -/
theorem ix5_of {n k l p q : ℕ} (x : (⟨5, ![n, k, l, p, q]⟩ : Shape).Idx) (i : Fin n) (j : Fin k) (m : Fin l) (o : Fin p) (r : Fin q) (h0 : x 0 = i) (h1 : x 1 = j)
    (h2 : x 2 = m) (h3 : x 3 = o) (h4 : x 4 = r) : x = ix5 i j m o r := by
  funext a
  match a with
  | ⟨0, _⟩ => exact h0
  | ⟨1, _⟩ => exact h1
  | ⟨2, _⟩ => exact h2
  | ⟨3, _⟩ => exact h3
  | ⟨4, _⟩ => exact h4

/-- Wrapped indices of neighbours' neighbours, read. -/
theorem idx4 (n : BitVec 32) (i : IVec S128x32x8x4 32) (b : Fin 128) (t : Fin 32) (j : Fin 8) (k : Fin 4) :
    broadcastInDim S128x32x8x4x1 ![0, 1, 2, 3] bcast_S128x32x8x4_S128x32x8x4x1_0_1_2_3 (select (cmpi .slt i (broadcastInDim S128x32x8x4 ![] bcast_S_S128x32x8x4 (constantI S_ 32 0#32)))
      (addi i (broadcastInDim S128x32x8x4 ![] bcast_S_S128x32x8x4 (constantI S_ 32 n))) i) (ix5 b t j k 0) = wrapI n (i (ix4 b t j k)) := by
  pointwise
  rfl

/-- Rows of a table at neighbours' neighbours, read. -/
theorem gatherH (a : FVec Ideal S10000x256 .f32) (i : IVec S128x32x8x4 32) (b : Fin 128) (t : Fin 32) (j : Fin 8) (k : Fin 4) (d : Fin 256) :
    Host.gather gather_S10000x256_S128x32x8x4x1_S128x32x8x4x256_4_0_n_n_0_4_1256 a (broadcastInDim S128x32x8x4x1 ![0, 1, 2, 3] bcast_S128x32x8x4_S128x32x8x4x1_0_1_2_3 (select (cmpi .slt i (broadcastInDim S128x32x8x4 ![] bcast_S_S128x32x8x4 (constantI S_ 32 0#32)))
      (addi i (broadcastInDim S128x32x8x4 ![] bcast_S_S128x32x8x4 (constantI S_ 32 10000#32))) i)) (ix5 b t j k d) = a (ix2 (rowW 10000 (by decide) 10000#32 (i (ix4 b t j k))) d) := by
  rw [gather_rows gather_S10000x256_S128x32x8x4x1_S128x32x8x4x256_4_0_n_n_0_4_1256 a _ _ (by decide) rfl rfl rfl rfl (ix5 b t j k 0)
    (fun h => ix5_of _ _ _ _ _ _ rfl rfl rfl rfl rfl) d rfl, idx4]

/-- Three arrays side by side, read in the first. -/
theorem cat3_apply1 (x y z : FVec Ideal S128x32x256 .f32) (b : Fin 128) (t : Fin 32) (d : Fin 256) :
    fn_main_v109 (F := Ideal) x y z (ix3 b t ⟨d.val, by omega⟩) = x (ix3 b t d) := by
  unfold fn_main_v109
  exact Idealize.ShloMosaic.concatenate_apply_piece (t := S128x32x768) 2 [⟨S128x32x256, x⟩, ⟨S128x32x256, y⟩, ⟨S128x32x256, z⟩]
    concatenates_S128x32x256_S128x32x256_S128x32x256_S128x32x768_d2 _ 0 (by show 0 < 3; decide) S128x32x256 _ rfl rfl 0 rfl (ix3 b t d)
    (fun a => match a with | ⟨0, _⟩ => fun _ => rfl | ⟨1, _⟩ => fun _ => rfl | ⟨2, _⟩ => fun h => absurd rfl h) (Nat.zero_add _)

/-- Three arrays side by side, read in the second. -/
theorem cat3_apply2 (x y z : FVec Ideal S128x32x256 .f32) (b : Fin 128) (t : Fin 32) (d : Fin 256) :
    fn_main_v109 (F := Ideal) x y z (ix3 b t ⟨256 + d.val, by omega⟩) = y (ix3 b t d) := by
  unfold fn_main_v109
  exact Idealize.ShloMosaic.concatenate_apply_piece (t := S128x32x768) 2 [⟨S128x32x256, x⟩, ⟨S128x32x256, y⟩, ⟨S128x32x256, z⟩]
    concatenates_S128x32x256_S128x32x256_S128x32x256_S128x32x768_d2 _ 1 (by show 1 < 3; decide) S128x32x256 _ rfl rfl 256 rfl (ix3 b t d)
    (fun a => match a with | ⟨0, _⟩ => fun _ => rfl | ⟨1, _⟩ => fun _ => rfl | ⟨2, _⟩ => fun h => absurd rfl h) rfl

/-- Three arrays side by side, read in the third. -/
theorem cat3_apply3 (x y z : FVec Ideal S128x32x256 .f32) (b : Fin 128) (t : Fin 32) (d : Fin 256) :
    fn_main_v109 (F := Ideal) x y z (ix3 b t ⟨512 + d.val, by omega⟩) = z (ix3 b t d) := by
  unfold fn_main_v109
  exact Idealize.ShloMosaic.concatenate_apply_piece (t := S128x32x768) 2 [⟨S128x32x256, x⟩, ⟨S128x32x256, y⟩, ⟨S128x32x256, z⟩]
    concatenates_S128x32x256_S128x32x256_S128x32x256_S128x32x768_d2 _ 2 (by show 2 < 3; decide) S128x32x256 _ rfl rfl 512 rfl (ix3 b t d)
    (fun a => match a with | ⟨0, _⟩ => fun _ => rfl | ⟨1, _⟩ => fun _ => rfl | ⟨2, _⟩ => fun h => absurd rfl h) rfl

/-- The first part of the inputs, read. -/
theorem v109_apply1 (V : Vals) (b : Fin 128) (t : Fin 32) (d : Fin 256) :
    res_main_v109 V (ix3 b t ⟨d.val, by omega⟩) = sX1 (V (Proc.devRef .tc main_arg0)) (V (Proc.devRef .tc main_arg2)) (V (Proc.devRef .tc main_arg3))
      (V (Proc.devRef .tc main_arg4)) (V (Proc.devRef .tc main_arg5)) (V (Proc.devRef .tc main_arg8)) (V (Proc.devRef .tc main_arg9)) (V (Proc.devRef .tc main_arg10)) b t d := by
  refine (cat3_apply1 _ _ _ b t d).trans ?_
  unfold sX1 sAgg sTab
  pointwise
  rw [gatherU, v39_apply, select_eq]
  refine congrArg (fun z => (if V (Proc.devRef .tc main_arg2) (ix2 b t) = 1#32 then Ideal.tanh (_ + Ideal.div z _) else _) + _)
    (Finset.sum_congr rfl fun j _ => congrArg₂ (fun u v => Ideal.tanh (u + Ideal.div v _)) ?_ ?_)
  · refine (gatherS _ _ b t j d).trans ?_
    rw [v6_apply]
  · refine Finset.sum_congr rfl fun k _ => (gatherH _ _ b t j k d).trans ?_
    rw [v20_apply]

/-- The second part of the inputs, read. -/
theorem v109_apply2 (V : Vals) (b : Fin 128) (t : Fin 32) (d : Fin 256) :
    res_main_v109 V (ix3 b t ⟨256 + d.val, by omega⟩) = sX2 (V (Proc.devRef .tc main_arg0)) (V (Proc.devRef .tc main_arg6)) (V (Proc.devRef .tc main_arg7))
      (V (Proc.devRef .tc main_arg10)) (V (Proc.devRef .tc main_arg11)) b t d := by
  refine (cat3_apply2 _ _ _ b t d).trans ?_
  unfold sX2 sAgg sTab
  pointwise
  rw [v88_apply]
  refine congrArg (fun z => Ideal.tanh (_ + Ideal.div z _))
    (Finset.sum_congr rfl fun j _ => congrArg₂ (fun u v => Ideal.tanh (u + Ideal.div v _)) ?_ ?_)
  · refine (gatherW _ _ b t j d).trans ?_
    rw [v55_apply]
  · refine Finset.sum_congr rfl fun k _ => (gatherH _ _ b t j k d).trans ?_
    rw [v69_apply]

/-- The third part of the inputs, read. -/
theorem v109_apply3 (V : Vals) (b : Fin 128) (t : Fin 32) (d : Fin 256) :
    res_main_v109 V (ix3 b t ⟨512 + d.val, by omega⟩) = V (Proc.devRef .tc main_arg12)
      (ix2 (rowW 2 (by decide) 2#32 (V (Proc.devRef .tc main_arg1) (ix2 b t))) d) := by
  exact (cat3_apply3 _ _ _ b t d).trans (gatherR _ _ b t d)

end Cert.ReferenceIdeal.Value
-- ==== Proof.Ref.StIdx.lean ====
module

public import proofs.«01_k».proof.Proof.Ref.InIdx

@[expose] public section

set_option maxRecDepth 16384

noncomputable section

namespace Cert.ReferenceIdeal.Value

open Cert.ReferenceIdeal Cert.ReferenceIdeal.Gen Idealize.ShloMosaic Idealize.ShloMosaic.TcCoe
open Cert.Recap

/-! # The reference's states -/

/-- A sum over three blocks of 256. -/
theorem sum_768 (f : Fin 768 → EReal) : (∑ k, f k) = (∑ k : Fin 256, f ⟨k.val, by omega⟩) + (∑ k : Fin 256, f ⟨256 + k.val, by omega⟩)
    + ∑ k : Fin 256, f ⟨512 + k.val, by omega⟩ := by
  have h1 := Fin.sum_univ_add (a := 512) (b := 256) f
  have h2 := Fin.sum_univ_add (a := 256) (b := 256) fun i => f (Fin.castAdd 256 i)
  exact h1.trans (congrArg (· + _) h2)

/-- The input of the recurrence, over the arguments. -/
def rX (V : Vals) : Fin 128 → Fin 32 → Fin 256 → EReal :=
  sX (sX1 (V (Proc.devRef .tc main_arg0)) (V (Proc.devRef .tc main_arg2)) (V (Proc.devRef .tc main_arg3)) (V (Proc.devRef .tc main_arg4))
      (V (Proc.devRef .tc main_arg5)) (V (Proc.devRef .tc main_arg8)) (V (Proc.devRef .tc main_arg9)) (V (Proc.devRef .tc main_arg10)))
    (sX2 (V (Proc.devRef .tc main_arg0)) (V (Proc.devRef .tc main_arg6)) (V (Proc.devRef .tc main_arg7)) (V (Proc.devRef .tc main_arg10)) (V (Proc.devRef .tc main_arg11)))
    (V (Proc.devRef .tc main_arg1)) (V (Proc.devRef .tc main_arg12)) (V (Proc.devRef .tc main_arg13))

/-- The states, over the arguments. -/
def rSt (V : Vals) (n : ℕ) : Fin 128 → Fin 256 → EReal := sSt (rX V) (V (Proc.devRef .tc main_arg14)) n

/-- The array is the state before step `n`. -/
def IsSt (V : Vals) (n : ℕ) (s : FVec Ideal S128x256 .f32) : Prop := ∀ b d, s (ix2 b d) = rSt V n b d

/-- A row of 768 by its column. -/
theorem rowDot_apply (A : FVec Ideal S128x768 .f32) (w : FVec Ideal S768x256 .f32) (b : Fin 128) (d : Fin 256) :
    Host.dotGeneral dot_S128x768_S768x256_S128x256_1_0_0_1_n_n none A w (ix2 b d) = ∑ k : Fin 768, A (ix2 b k) * w (ix2 k d) := by
  pointwise

/-- A state through the recurrent weights. -/
theorem stDot_apply (A : FVec Ideal S128x256 .f32) (w : FVec Ideal S256x256 .f32) (b : Fin 128) (d : Fin 256) :
    Host.dotGeneral dot_S128x256_S256x256_S128x256_1_0_0_1_n_n none A w (ix2 b d) = ∑ k : Fin 256, A (ix2 b k) * w (ix2 k d) := by
  pointwise

/-- A step's rows of the inputs, read. -/
theorem stepIn_apply (A : FVec Ideal S128x32x768 .f32) (t : ℕ) (ht : t < 32) (h : S128x32x768.Slices ![0, t, 0] S128x1x768) (b : Fin 128) (k : Fin 768) :
    shapeCast S128x768 (extractStridedSlice S128x1x768 ![0, t, 0] A h) shapeCasts_S128x1x768_S128x768 (ix2 b k) = A (ix3 b ⟨t, ht⟩ k) := by
  rw [Idealize.ShloMosaic.shapeCast_apply _ _ _ (ix3 b 0 k) (by
    rw [Shape.rowMajor_val_two, Shape.rowMajor_val_three]
    show (b.val * 1 + 0) * 768 + k.val = b.val * 768 + k.val
    omega)]
  refine congrArg A (ix3_of _ _ _ _ (Fin.ext ?_) (Fin.ext ?_) (Fin.ext ?_))
  · exact Nat.zero_add _
  · exact Nat.add_zero _
  · exact Nat.zero_add _

/-- The inputs through the input weights. -/
theorem rX_apply (V : Vals) (b : Fin 128) (t : Fin 32) (d : Fin 256) :
    (∑ k : Fin 768, (show FVec Ideal S128x32x768 .f32 from res_main_v109 V) (ix3 b t k) * (show FVec Ideal S768x256 .f32 from V (Proc.devRef .tc main_arg13)) (ix2 k d))
      = rX V b t d := by
  rw [sum_768]
  unfold rX sX
  refine congrArg₂ (· + ·) (congrArg₂ (· + ·) ?_ ?_) ?_ <;> refine Finset.sum_congr rfl fun k _ => congrArg (· * _) ?_
  · exact v109_apply1 V b t k
  · exact v109_apply2 V b t k
  · exact v109_apply3 V b t k

/-- The array of one step. -/
def stepArr (A : FVec Ideal S128x32x768 .f32) (w : FVec Ideal S768x256 .f32) (wh : FVec Ideal S256x256 .f32) (n : ℕ)
    (h : S128x32x768.Slices ![0, n, 0] S128x1x768) (s : FVec Ideal S128x256 .f32) : FVec Ideal S128x256 .f32 :=
  Host.tanh (addf (Host.dotGeneral dot_S128x768_S768x256_S128x256_1_0_0_1_n_n none
      (shapeCast S128x768 (extractStridedSlice S128x1x768 ![0, n, 0] A h) shapeCasts_S128x1x768_S128x768) w)
      (Host.dotGeneral dot_S128x256_S256x256_S128x256_1_0_0_1_n_n none s wh))

/-- One step. -/
theorem step (V : Vals) (n : ℕ) (hn : n < 32) (h : S128x32x768.Slices ![0, n, 0] S128x1x768) (s : FVec Ideal S128x256 .f32) (hs : IsSt V n s) :
    IsSt V (n + 1) (stepArr (res_main_v109 V) (V (Proc.devRef .tc main_arg13)) (V (Proc.devRef .tc main_arg14)) n h s) := by
  intro b d
  unfold rSt
  rw [sSt]
  beta_reduce
  rw [dif_pos hn]
  refine congrArg₂ (fun x y => Ideal.tanh (x + y)) ?_ ?_
  · refine (rowDot_apply _ _ b d).trans (Eq.trans (Finset.sum_congr rfl fun k _ => congrArg (· * _) ?_) (rX_apply V b ⟨n, hn⟩ d))
    exact stepIn_apply _ n hn h b k
  · refine (stDot_apply _ _ b d).trans (Finset.sum_congr rfl fun k _ => congrArg (· * _) (hs b k))

/-- The first state. -/
theorem zeroState (V : Vals) : IsSt V 0 (broadcastInDim S128x256 ![] bcast_S_S128x256 (constant (F := Ideal) S_ .f32 0x00000000#32)) := by
  intro b d
  unfold rSt sSt
  pointwise

/-- The state after step 0. -/
theorem st_v116 (V : Vals) : IsSt V 1 (res_main_v116 V) := step V 0 (by decide) _ _ (zeroState V)

/-- The state after step 1. -/
theorem st_v122 (V : Vals) : IsSt V 2 (res_main_v122 V) := step V 1 (by decide) _ _ (st_v116 V)

/-- The state after step 2. -/
theorem st_v128 (V : Vals) : IsSt V 3 (res_main_v128 V) := step V 2 (by decide) _ _ (st_v122 V)

/-- The state after step 3. -/
theorem st_v134 (V : Vals) : IsSt V 4 (res_main_v134 V) := step V 3 (by decide) _ _ (st_v128 V)

/-- The state after step 4. -/
theorem st_v140 (V : Vals) : IsSt V 5 (res_main_v140 V) := step V 4 (by decide) _ _ (st_v134 V)

/-- The state after step 5. -/
theorem st_v146 (V : Vals) : IsSt V 6 (res_main_v146 V) := step V 5 (by decide) _ _ (st_v140 V)

/-- The state after step 6. -/
theorem st_v152 (V : Vals) : IsSt V 7 (res_main_v152 V) := step V 6 (by decide) _ _ (st_v146 V)

/-- The state after step 7. -/
theorem st_v158 (V : Vals) : IsSt V 8 (res_main_v158 V) := step V 7 (by decide) _ _ (st_v152 V)

/-- The state after step 8. -/
theorem st_v164 (V : Vals) : IsSt V 9 (res_main_v164 V) := step V 8 (by decide) _ _ (st_v158 V)

/-- The state after step 9. -/
theorem st_v170 (V : Vals) : IsSt V 10 (res_main_v170 V) := step V 9 (by decide) _ _ (st_v164 V)

/-- The state after step 10. -/
theorem st_v176 (V : Vals) : IsSt V 11 (res_main_v176 V) := step V 10 (by decide) _ _ (st_v170 V)

/-- The state after step 11. -/
theorem st_v182 (V : Vals) : IsSt V 12 (res_main_v182 V) := step V 11 (by decide) _ _ (st_v176 V)

/-- The state after step 12. -/
theorem st_v188 (V : Vals) : IsSt V 13 (res_main_v188 V) := step V 12 (by decide) _ _ (st_v182 V)

/-- The state after step 13. -/
theorem st_v194 (V : Vals) : IsSt V 14 (res_main_v194 V) := step V 13 (by decide) _ _ (st_v188 V)

/-- The state after step 14. -/
theorem st_v200 (V : Vals) : IsSt V 15 (res_main_v200 V) := step V 14 (by decide) _ _ (st_v194 V)

/-- The state after step 15. -/
theorem st_v206 (V : Vals) : IsSt V 16 (res_main_v206 V) := step V 15 (by decide) _ _ (st_v200 V)

/-- The state after step 16. -/
theorem st_v212 (V : Vals) : IsSt V 17 (res_main_v212 V) := step V 16 (by decide) _ _ (st_v206 V)

/-- The state after step 17. -/
theorem st_v218 (V : Vals) : IsSt V 18 (res_main_v218 V) := step V 17 (by decide) _ _ (st_v212 V)

/-- The state after step 18. -/
theorem st_v224 (V : Vals) : IsSt V 19 (res_main_v224 V) := step V 18 (by decide) _ _ (st_v218 V)

/-- The state after step 19. -/
theorem st_v230 (V : Vals) : IsSt V 20 (res_main_v230 V) := step V 19 (by decide) _ _ (st_v224 V)

/-- The state after step 20. -/
theorem st_v236 (V : Vals) : IsSt V 21 (res_main_v236 V) := step V 20 (by decide) _ _ (st_v230 V)

/-- The state after step 21. -/
theorem st_v242 (V : Vals) : IsSt V 22 (res_main_v242 V) := step V 21 (by decide) _ _ (st_v236 V)

/-- The state after step 22. -/
theorem st_v248 (V : Vals) : IsSt V 23 (res_main_v248 V) := step V 22 (by decide) _ _ (st_v242 V)

/-- The state after step 23. -/
theorem st_v254 (V : Vals) : IsSt V 24 (res_main_v254 V) := step V 23 (by decide) _ _ (st_v248 V)

/-- The state after step 24. -/
theorem st_v260 (V : Vals) : IsSt V 25 (res_main_v260 V) := step V 24 (by decide) _ _ (st_v254 V)

/-- The state after step 25. -/
theorem st_v266 (V : Vals) : IsSt V 26 (res_main_v266 V) := step V 25 (by decide) _ _ (st_v260 V)

/-- The state after step 26. -/
theorem st_v272 (V : Vals) : IsSt V 27 (res_main_v272 V) := step V 26 (by decide) _ _ (st_v266 V)

/-- The state after step 27. -/
theorem st_v278 (V : Vals) : IsSt V 28 (res_main_v278 V) := step V 27 (by decide) _ _ (st_v272 V)

/-- The state after step 28. -/
theorem st_v284 (V : Vals) : IsSt V 29 (res_main_v284 V) := step V 28 (by decide) _ _ (st_v278 V)

/-- The state after step 29. -/
theorem st_v290 (V : Vals) : IsSt V 30 (res_main_v290 V) := step V 29 (by decide) _ _ (st_v284 V)

end Cert.ReferenceIdeal.Value
-- ==== Proof.Ref.Stack.lean ====
module

public import proofs.«01_k».proof.Proof.Ref.StIdx
public import Idealize.ShloMosaic.Lib.Pipeline.ValueKit.Tiles

@[expose] public section

set_option maxRecDepth 16384

noncomputable section

namespace Cert.ReferenceIdeal.Value

open Cert.ReferenceIdeal Cert.ReferenceIdeal.Gen Idealize.ShloMosaic Idealize.ShloMosaic.TcCoe
open Cert.Recap

/-! # The reference's states, stacked -/

/-- A state among the stacked ones. -/
theorem piece (V : Vals) (k0 N : ℕ) (b : Fin 128) (t : Fin N) (d : Fin 256) (k : ℕ) (s : FVec Ideal S128x256 .f32) (hs : IsSt V (k0 + k + 1) s) :
    PieceAt (t := ⟨3, ![128, N, 256]⟩) 1 (ix3 b t d) (rSt V (k0 + t.val + 1) b d) S128x1x256 (broadcastInDim S128x1x256 ![0, 2] bcast_S128x256_S128x1x256_0_2 s) k := by
  intro hk hr i h0 hi
  have e : t.val = k := hk
  have ei : i = ix3 b 0 d := ix3_of _ _ _ _ (Fin.ext (hi 0 (fun h => absurd h (by simp)))) (Fin.ext h0) (Fin.ext (hi 2 (fun h => absurd h (by simp))))
  rw [e, ← hs b d, ei]
  pointwise

/-- Two stacks, read in the first. -/
theorem pair_left (x : FVec Ideal S128x16x256 .f32) (y : FVec Ideal S128x15x256 .f32) (b : Fin 128) (t : Fin 31) (d : Fin 256) (t' : Fin 16) (ht : t'.val = t.val) :
    concatenate S128x31x256 1 [⟨S128x16x256, x⟩, ⟨S128x15x256, y⟩] concatenates_S128x16x256_S128x15x256_S128x31x256_d1 (ix3 b t d) = x (ix3 b t' d) :=
  Idealize.ShloMosaic.concatenate_pair_apply_left (t := S128x31x256) 1 x y concatenates_S128x16x256_S128x15x256_S128x31x256_d1 (ix3 b t d) rfl (ix3 b t' d)
    (fun a => match a with | ⟨0, _⟩ => rfl | ⟨1, _⟩ => ht | ⟨2, _⟩ => rfl)

/-- Two stacks, read in the second. -/
theorem pair_right (x : FVec Ideal S128x16x256 .f32) (y : FVec Ideal S128x15x256 .f32) (b : Fin 128) (t : Fin 31) (d : Fin 256) (t' : Fin 15)
    (ht : t'.val + 16 = t.val) :
    concatenate S128x31x256 1 [⟨S128x16x256, x⟩, ⟨S128x15x256, y⟩] concatenates_S128x16x256_S128x15x256_S128x31x256_d1 (ix3 b t d) = y (ix3 b t' d) :=
  Idealize.ShloMosaic.concatenate_pair_apply_right (t := S128x31x256) 1 x y concatenates_S128x16x256_S128x15x256_S128x31x256_d1 (ix3 b t d) rfl rfl (ix3 b t' d)
    (fun a => match a with | ⟨0, _⟩ => fun _ => rfl | ⟨1, _⟩ => fun h => absurd rfl h | ⟨2, _⟩ => fun _ => rfl) ht

/-- The stacked states, read. -/
theorem v330_apply (V : Vals) (b : Fin 128) (t : Fin 31) (d : Fin 256) : res_main_v330 V (ix3 b t d) = rSt V (t.val + 1) b d := by
  by_cases h : t.val < 16
  · obtain ⟨t', ht⟩ : ∃ t' : Fin 16, t'.val = t.val := ⟨⟨t.val, h⟩, rfl⟩
    rw [← ht]
    refine (pair_left _ _ b t d t' ht).trans ?_
    rw [show t'.val + 1 = 0 + t'.val + 1 by omega]
    clear ht h
    generalize t' = t
    exact concatenate_unit_eq _ _ _ _ _ rfl ⟨piece V 0 _ b t d 0 _ (st_v116 V), piece V 0 _ b t d 1 _ (st_v122 V), piece V 0 _ b t d 2 _ (st_v128 V), piece V 0 _ b t d 3 _ (st_v134 V), piece V 0
    _ b t d 4 _ (st_v140 V), piece V 0 _ b t d 5 _ (st_v146 V), piece V 0 _ b t d 6 _ (st_v152 V), piece V 0 _ b t d 7 _ (st_v158 V), piece V 0 _ b t d 8
    _ (st_v164 V), piece V 0 _ b t d 9 _ (st_v170 V), piece V 0 _ b t d 10 _ (st_v176 V), piece V 0 _ b t d 11 _ (st_v182 V), piece V 0 _ b t d 12 _
    (st_v188 V), piece V 0 _ b t d 13 _ (st_v194 V), piece V 0 _ b t d 14 _ (st_v200 V), piece V 0 _ b t d 15 _ (st_v206 V), trivial⟩
  · obtain ⟨t', ht⟩ : ∃ t' : Fin 15, t'.val + 16 = t.val := ⟨⟨t.val - 16, by omega⟩, by show t.val - 16 + 16 = t.val; omega⟩
    rw [← ht]
    refine (pair_right _ _ b t d t' ht).trans ?_
    rw [show t'.val + 16 + 1 = 16 + t'.val + 1 by omega]
    clear ht h
    generalize t' = t
    exact concatenate_unit_eq _ _ _ _ _ rfl ⟨piece V 16 _ b t d 0 _ (st_v212 V), piece V 16 _ b t d 1 _ (st_v218 V), piece V 16 _ b t d 2 _ (st_v224 V), piece V 16 _ b t d 3 _ (st_v230 V), piece
    V 16 _ b t d 4 _ (st_v236 V), piece V 16 _ b t d 5 _ (st_v242 V), piece V 16 _ b t d 6 _ (st_v248 V), piece V 16 _ b t d 7 _ (st_v254 V), piece V 16 _
    b t d 8 _ (st_v260 V), piece V 16 _ b t d 9 _ (st_v266 V), piece V 16 _ b t d 10 _ (st_v272 V), piece V 16 _ b t d 11 _ (st_v278 V), piece V 16 _ b t
    d 12 _ (st_v284 V), piece V 16 _ b t d 13 _ (st_v290 V), piece V 16 _ b t d 14 _ (step V 30 (by decide) _ _ (st_v290 V)), trivial⟩

end Cert.ReferenceIdeal.Value
-- ==== Proof.Math.TopK.lean ====
module

public import Idealize.ShloMosaic.Lib.SortPrefix
public import Idealize.ShloMosaic.PureOps.Ideal

@[expose] public section

noncomputable section

namespace Cert.Recap

open Idealize.ShloMosaic

/-! # The largest entries of a row

A stable sort by descending value puts an entry at the number of entries that come before it: those that are larger, and
those that are equal and stand earlier. So a sum over the first places of the sort is a sum over the entries of small rank. -/

/-- Larger entries come first. -/
def gtB {n : ℕ} (v : Fin n → EReal) (k k' : Fin n) : Bool := decide (v k' < v k)

/-- Larger entries come first, and of equal ones the earlier. -/
def gtP {n : ℕ} (v : Fin n → EReal) (k k' : Fin n) : Bool := decide (v k' < v k) || (decide (v k = v k') && decide (k < k'))

/-- The second is a strict total order. -/
theorem gtP_strict {n : ℕ} (v : Fin n → EReal) : StrictTotalBefore (gtP v) :=
  StrictTotalBefore.of_key_then_position (fun x y : EReal => decide (y < x)) v (fun a => by simp)
    (fun a b c h h' => by simp only [decide_eq_true_eq] at h h' ⊢; exact lt_trans h' h)
    (fun a b => by simp only [decide_eq_true_eq]; rcases lt_trichotomy a b with h | h | h; exacts [.inr (.inr h), .inr (.inl h), .inl h])

/-- Sorting positions in order, the first order's stable sort is the second's. -/
theorem stableSort_gtB {n : ℕ} (v : Fin n → EReal) (l : List (Fin n)) (hl : l.Pairwise (· < ·)) : stableSort (gtB v) l = stableSort (gtP v) l := by
  induction l with
  | nil => rfl
  | cons a l ih =>
    rw [List.pairwise_cons] at hl
    unfold stableSort
    rw [ih hl.2]
    refine insertBefore_congr _ _ _ _ fun b hb => ?_
    have h : a < b := hl.1 b ((perm_stableSort _ _).mem_iff.mp hb)
    unfold gtB gtP
    rw [decide_eq_false (not_lt.mpr h.le), Bool.and_false, Bool.or_false]

/-- The two orders sort alike. -/
theorem sortedFrom_gtB {n : ℕ} (v : Fin n → EReal) : sortedFrom (gtB v) = sortedFrom (gtP v) := by
  funext k
  unfold sortedFrom
  have e : sortPositions n (gtB v) = sortPositions n (gtP v) := stableSort_gtB v _ (List.pairwise_lt_finRange n)
  rw [List.get_of_eq e]
  rfl

/-- The entries before entry `τ`. -/
def rk {n : ℕ} (v : Fin n → EReal) (τ : Fin n) : ℕ := (Finset.univ.filter fun j => v τ < v j ∨ (v j = v τ ∧ j < τ)).card

/-- The second order on sorted places is the places' order. -/
theorem gtP_sorted {n : ℕ} (v : Fin n → EReal) (i k : Fin n) : gtP v (sortedFrom (gtP v) i) (sortedFrom (gtP v) k) = true ↔ i < k := by
  have hno : ∀ i j : Fin n, i < j → gtP v (sortedFrom (gtP v) j) (sortedFrom (gtP v) i) = false :=
    sortedFrom_noInversion (gtP v) (gtP v) (fun a b h => (gtP_strict v).asymm a b h) (fun _ _ h => h) (gtP_strict v).negTrans
  constructor
  · intro h
    by_contra hn
    rcases lt_or_eq_of_le (not_lt.mp hn) with h' | h'
    · rw [hno _ _ h'] at h; exact absurd h (by decide)
    · rw [h', (gtP_strict v).irrefl] at h; exact absurd h (by decide)
  · intro h
    rcases (gtP_strict v).total (sortedFrom (gtP v) i) (sortedFrom (gtP v) k) (fun e => h.ne (sortedFrom_injective _ e)) with h' | h'
    · exact h'
    · rw [hno _ _ h] at h'; exact absurd h' (by decide)

/-- The entry at a place has the place's rank. -/
theorem rk_sorted {n : ℕ} (v : Fin n → EReal) (k : Fin n) : rk v (sortedFrom (gtB v) k) = k.val := by
  rw [sortedFrom_gtB]
  unfold rk
  have e : (Finset.univ.filter fun j => v (sortedFrom (gtP v) k) < v j ∨ (v j = v (sortedFrom (gtP v) k) ∧ j < sortedFrom (gtP v) k))
      = (Finset.Iio k).image (sortedFrom (gtP v)) := by
    ext j
    obtain ⟨i, rfl⟩ := sortedFrom_surjective (gtP v) j
    have h := gtP_sorted v i k
    unfold gtP at h
    rw [Bool.or_eq_true, Bool.and_eq_true, decide_eq_true_eq, decide_eq_true_eq, decide_eq_true_eq] at h
    rw [Finset.mem_filter, Finset.mem_image]
    constructor
    · rintro ⟨_, h'⟩
      exact ⟨i, Finset.mem_Iio.mpr (h.mp h'), rfl⟩
    · rintro ⟨i', hi', e⟩
      rw [sortedFrom_injective _ e] at hi'
      exact ⟨Finset.mem_univ _, h.mpr (Finset.mem_Iio.mp hi')⟩
  rw [e, Finset.card_image_of_injective _ (sortedFrom_injective _), Fin.card_Iio]

/-- A sum over the first places is a sum over the entries of small rank. -/
theorem sum_top {M : Type*} [AddCommMonoid M] {n m : ℕ} (h : m ≤ n) (v : Fin n → EReal) (f : Fin n → M) :
    ∑ r : Fin m, f (sortedFrom (gtB v) (r.castLE h)) = ∑ τ : Fin n, if rk v τ < m then f τ else 0 := by
  have hbij : Function.Bijective (sortedFrom (gtB v)) := ⟨sortedFrom_injective _, sortedFrom_surjective _⟩
  have e1 : ∑ τ : Fin n, (if rk v τ < m then f τ else 0) = ∑ k : Fin n, if k.val < m then f (sortedFrom (gtB v) k) else 0 := by
    rw [← Equiv.sum_comp (Equiv.ofBijective _ hbij)]
    refine Finset.sum_congr rfl fun k _ => ?_
    rw [Equiv.ofBijective_apply, rk_sorted]
  rw [e1]
  obtain ⟨e, rfl⟩ := Nat.exists_eq_add_of_le h
  rw [Fin.sum_univ_add]
  have e2 : ∑ i : Fin e, (if (Fin.natAdd m i).val < m then f (sortedFrom (gtB v) (Fin.natAdd m i)) else 0) = 0 :=
    Finset.sum_eq_zero fun i _ => if_neg (by simp)
  rw [e2, add_zero]
  refine Finset.sum_congr rfl fun i _ => ?_
  rw [if_pos (by simp)]
  rfl

end Cert.Recap
-- ==== Proof.Math.Softmax.lean ====
module

public import proofs.«01_k».proof.Proof.Math.TopK

@[expose] public section

noncomputable section

namespace Cert.Recap

open Idealize.ShloMosaic

/-! # The weights of the kept entries

The weights of a softmax do not depend on the shift of its exponents, so both programs' weights are the same real numbers. -/

/-- A finite sum of reals, as an extended real. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The weight of an entry among the kept ones. -/
def wt {n : ℕ} (K : Fin n → Prop) [DecidablePred K] (x : Fin n → ℝ) (τ : Fin n) : ℝ :=
  if K τ then Real.exp (x τ) / ∑ k : Fin n, (if K k then Real.exp (x k) else 0) else 0

/-- A kept entry's shifted exponential. -/
theorem exp_shift (x μ : ℝ) : Ideal.exp ((x : EReal) - (μ : EReal)) = ((Real.exp x * Real.exp (-μ) : ℝ) : EReal) := by
  rw [← EReal.coe_sub, ← Real.exp_add]
  rfl

/-- The sum of the kept exponentials is positive. -/
theorem sum_keep_pos {n : ℕ} (K : Fin n → Prop) [DecidablePred K] (x : Fin n → ℝ) (hne : ∃ τ, K τ) :
    0 < ∑ k : Fin n, (if K k then Real.exp (x k) else 0) := by
  obtain ⟨τ, hτ⟩ := hne
  refine Finset.sum_pos' (fun k _ => ?_) ⟨τ, Finset.mem_univ _, ?_⟩
  · split
    · exact (Real.exp_pos _).le
    · exact le_refl _
  · rw [if_pos hτ]; exact Real.exp_pos _

/-- A division of reals by a real that is not zero. -/
theorem div_coe (a b : ℝ) (hb : b ≠ 0) : Ideal.div (a : EReal) (b : EReal) = ((a / b : ℝ) : EReal) := by
  unfold Ideal.div
  rw [if_neg (by exact_mod_cast hb), ← EReal.coe_inv, ← EReal.coe_mul, div_eq_mul_inv]

/-- The quotient of a kept entry's shifted exponential by the sum of all of them is its weight. -/
theorem div_keep {n : ℕ} (K : Fin n → Prop) [DecidablePred K] (x : Fin n → ℝ) (μ : ℝ) (hne : ∃ τ, K τ) (τ : Fin n) :
    Ideal.div (if K τ then Ideal.exp ((x τ : EReal) - (μ : EReal)) else 0) (∑ k : Fin n, if K k then Ideal.exp ((x k : EReal) - (μ : EReal)) else 0)
      = ((wt K x τ : ℝ) : EReal) := by
  have h0 : ∀ k, (if K k then Ideal.exp ((x k : EReal) - (μ : EReal)) else 0) = (((if K k then Real.exp (x k) else 0) * Real.exp (-μ) : ℝ) : EReal) := by
    intro k
    split
    · exact exp_shift _ _
    · simp
  have hpos := sum_keep_pos K x hne
  simp only [h0]
  rw [← coe_sum, ← Finset.sum_mul, div_coe _ _ (mul_pos hpos (Real.exp_pos _)).ne', mul_div_mul_right _ _ (Real.exp_pos _).ne']
  unfold wt
  congr 1
  split
  · rfl
  · simp

/-- The largest of finitely many reals, from the least value on, is a real. -/
theorem fold_max_coe {n : ℕ} (hn : 0 < n) (g : Fin n → ℝ) : ∃ μ : ℝ, Finset.univ.fold max (⊥ : EReal) (fun k => (g k : EReal)) = (μ : EReal) := by
  have h1 : Finset.univ.fold max (⊥ : EReal) (fun k => (g k : EReal)) < ⊤ := by
    rw [Finset.fold_max_lt]
    exact ⟨bot_lt_top, fun k _ => EReal.coe_lt_top _⟩
  have h2 : ⊥ < Finset.univ.fold max (⊥ : EReal) (fun k => (g k : EReal)) := by
    rw [Finset.lt_fold_max]
    exact .inr ⟨⟨0, hn⟩, Finset.mem_univ _, EReal.bot_lt_coe _⟩
  exact ⟨_, (EReal.coe_toReal h1.ne h2.ne').symm⟩

/-- The largest of values below the top, one of which is above the bottom, is a real. -/
theorem fold_max_coe' {n : ℕ} (g : Fin n → EReal) (ht : ∀ k, g k < ⊤) (hb : ∃ k, ⊥ < g k) : ∃ μ : ℝ, Finset.univ.fold max (⊥ : EReal) g = (μ : EReal) := by
  have h1 : Finset.univ.fold max (⊥ : EReal) g < ⊤ := by
    rw [Finset.fold_max_lt]
    exact ⟨bot_lt_top, fun k _ => ht k⟩
  have h2 : ⊥ < Finset.univ.fold max (⊥ : EReal) g := by
    rw [Finset.lt_fold_max]
    obtain ⟨k, hk⟩ := hb
    exact .inr ⟨k, Finset.mem_univ _, hk⟩
  exact ⟨_, (EReal.coe_toReal h1.ne h2.ne').symm⟩

/-! ## The reference's row -/

/-- The scores of step `t`, those of the steps after it at the bottom. -/
def vm (x : Fin 31 → ℝ) (t : Fin 31) (τ : Fin 31) : EReal := if τ ≤ t then (x τ : EReal) else ⊥

/-- The entries kept at step `t`. -/
abbrev Kp (x : Fin 31 → ℝ) (t : Fin 31) (τ : Fin 31) : Prop := τ ≤ t ∧ rk (vm x t) τ < 10

/-- The first place of the sort holds a step not after `t`. -/
theorem first_le (x : Fin 31 → ℝ) (t : Fin 31) : sortedFrom (gtB (vm x t)) 0 ≤ t := by
  by_contra h
  have h0 : rk (vm x t) (sortedFrom (gtB (vm x t)) 0) = 0 := rk_sorted _ _
  unfold rk at h0
  rw [Finset.card_eq_zero, Finset.filter_eq_empty_iff] at h0
  refine h0 (Finset.mem_univ 0) (.inl ?_)
  have e1 : vm x t (sortedFrom (gtB (vm x t)) 0) = ⊥ := if_neg h
  have e2 : vm x t 0 = (x 0 : EReal) := if_pos (Fin.zero_le _)
  rw [e1, e2]
  exact EReal.bot_lt_coe _

/-- Some entry is kept. -/
theorem Kp_ne (x : Fin 31 → ℝ) (t : Fin 31) : ∃ τ, Kp x t τ :=
  ⟨_, first_le x t, by rw [rk_sorted]; decide⟩

/-- The largest of the first ten scores is a real. -/
theorem max_coe (x : Fin 31 → ℝ) (t : Fin 31) : ∃ μ : ℝ,
    Finset.univ.fold max (⊥ : EReal) (fun r : Fin 10 => vm x t (sortedFrom (gtB (vm x t)) (r.castLE (by decide)))) = (μ : EReal) := by
  refine fold_max_coe' _ (fun k => ?_) ⟨0, ?_⟩
  · unfold vm; split
    · exact EReal.coe_lt_top _
    · exact bot_lt_top
  · show ⊥ < vm x t (sortedFrom (gtB (vm x t)) 0)
    have e1 : vm x t (sortedFrom (gtB (vm x t)) 0) = (x (sortedFrom (gtB (vm x t)) 0) : EReal) := if_pos (first_le x t)
    rw [e1]
    exact EReal.bot_lt_coe _

/-- Summed over the first ten places of the sort, the softmax's weights are the weights of the kept entries. -/
theorem sum_recap (x : Fin 31 → ℝ) (t : Fin 31) (μ : ℝ) (H : Fin 31 → EReal) :
    ∑ r : Fin 10, Ideal.div (Ideal.exp (vm x t (sortedFrom (gtB (vm x t)) (r.castLE (by decide))) - (μ : EReal)))
        (∑ r' : Fin 10, Ideal.exp (vm x t (sortedFrom (gtB (vm x t)) (r'.castLE (by decide))) - (μ : EReal))) * H (sortedFrom (gtB (vm x t)) (r.castLE (by decide)))
      = ∑ τ : Fin 31, ((wt (Kp x t) x τ : ℝ) : EReal) * H τ := by
  have e : ∀ τ, (if rk (vm x t) τ < 10 then Ideal.exp (vm x t τ - (μ : EReal)) else 0) = if Kp x t τ then Ideal.exp ((x τ : EReal) - (μ : EReal)) else 0 := by
    intro τ
    unfold Kp
    by_cases h : rk (vm x t) τ < 10
    · rw [if_pos h]
      unfold vm
      by_cases h' : τ ≤ t
      · rw [if_pos h', if_pos ⟨h', h⟩]
      · rw [if_neg h', if_neg (fun hh => h' hh.1), EReal.bot_sub]
        rfl
    · rw [if_neg h, if_neg (fun hh => h hh.2)]
  rw [sum_top (by decide) (vm x t) (fun τ => Ideal.exp (vm x t τ - (μ : EReal))),
    sum_top (by decide) (vm x t) (fun τ => Ideal.div (Ideal.exp (vm x t τ - (μ : EReal))) _ * H τ)]
  refine Finset.sum_congr rfl fun τ _ => ?_
  by_cases h : rk (vm x t) τ < 10
  · rw [← div_keep (Kp x t) x μ (Kp_ne x t) τ]
    simp only [← e]
    rw [if_pos h, if_pos h]
  · rw [if_neg h]
    unfold wt
    rw [if_neg (fun hh => h hh.2)]
    simp

/-- The prediction's first half: summing the recap into the state before weighting it is weighting every state before. -/
theorem recap_eq (h : Fin 31 → Fin 256 → ℝ) (w : Fin 256 → ℝ) (a : Fin 31 → ℝ) (t : Fin 31) :
    (∑ d : Fin 256, (h t d : EReal) * (w d : EReal)) + ∑ τ : Fin 31, (∑ d : Fin 256, (h τ d : EReal) * (w d : EReal)) * (a τ : EReal)
      = ∑ d : Fin 256, ((h t d : EReal) + ∑ τ : Fin 31, (a τ : EReal) * (h τ d : EReal)) * (w d : EReal) := by
  simp only [← EReal.coe_mul, ← coe_sum, ← EReal.coe_add]
  refine congrArg _ ?_
  simp only [add_mul, Finset.sum_add_distrib, Finset.sum_mul]
  rw [Finset.sum_comm]
  refine congrArg _ ?_
  refine Finset.sum_congr rfl fun d _ => Finset.sum_congr rfl fun τ _ => ?_
  ring

end Cert.Recap
-- ==== Proof.Ref.TopIdx.lean ====
module

public import proofs.«01_k».proof.Proof.Ref.Stack
public import proofs.«01_k».proof.Proof.Math.Softmax
public import Idealize.ShloMosaic.Lib.WordCmp

@[expose] public section

set_option maxRecDepth 16384

noncomputable section

namespace Cert.ReferenceIdeal.Value

open Cert.ReferenceIdeal Cert.ReferenceIdeal.Gen Idealize.ShloMosaic Idealize.ShloMosaic.TcCoe
open Cert.Recap

/-! # The reference's largest scores -/

/-- The places of a row's scores, largest first. -/
abbrev topS (S : FVec Ideal S128x31x31 .f32) (b : Fin 128) (t : Fin 31) : Fin 31 → Fin 31 := sortedFrom (gtB fun τ => S (ix3 b t τ))

/-- The order of the extended reals. -/
theorem cmp_gt (x y : EReal) : (FloatOps.cmpfTotal (F := Ideal) (φ := .f32) .gt x y == 1#1) = decide (y < x) := by
  show (Ideal.cmpTotal .gt x y == 1#1) = _
  by_cases h : y < x
  · rw [decide_eq_true h]
    simp [Ideal.cmpTotal, Ideal.cmp, CmpDirection.ordered, h]
  · rw [decide_eq_false h]
    simp [Ideal.cmpTotal, Ideal.cmp, CmpDirection.ordered, h]

/-- A sort of two arrays along the last axis, read. -/
theorem sort2_apply {α β : Type} (cmp : α × β → α × β → BitVec 1) (x : S128x31x31.Idx → α) (y : S128x31x31.Idx → β) (b : Fin 128) (t r k : Fin 31)
    (hk : sortedFrom (fun k k' : Fin 31 => cmp (x (ix3 b t k), y (ix3 b t k)) (x (ix3 b t k'), y (ix3 b t k')) == 1#1) r = k) :
    (Host.sort2 S128x31x31 2 cmp x y).1 (ix3 b t r) = x (ix3 b t k) ∧ (Host.sort2 S128x31x31 2 cmp x y).2 (ix3 b t r) = y (ix3 b t k) := by
  have e : ∀ k : Fin 31, Shape.Idx.along (s := S128x31x31) (ix3 b t r) 2 k = ix3 b t k := fun k => ix3_of _ _ _ _ rfl rfl rfl
  have h : ∀ f : Fin 31 → Fin 31 → Bool, (f = fun k k' : Fin 31 => cmp (x (ix3 b t k), y (ix3 b t k)) (x (ix3 b t k'), y (ix3 b t k')) == 1#1) →
      Shape.Idx.along (s := S128x31x31) (ix3 b t r) 2 (sortedFrom f r) = ix3 b t k := by
    intro f hf
    subst hf
    exact (e _).trans (congrArg (ix3 b t) hk)
  have h' := h (fun k k' : Fin 31 => cmp (x (Shape.Idx.along (s := S128x31x31) (ix3 b t r) 2 k), y (Shape.Idx.along (s := S128x31x31) (ix3 b t r) 2 k))
    (x (Shape.Idx.along (s := S128x31x31) (ix3 b t r) 2 k'), y (Shape.Idx.along (s := S128x31x31) (ix3 b t r) 2 k')) == 1#1)
    (funext fun k => funext fun k' => by rw [e k, e k'])
  unfold Host.sort2
  rw [dif_pos (by decide)]
  exact ⟨congrArg x h', congrArg y h'⟩

/-- The first array of such a sort, read. -/
theorem sort2_fst {α β : Type} (cmp : α × β → α × β → BitVec 1) (x : S128x31x31.Idx → α) (y : S128x31x31.Idx → β) (b : Fin 128) (t r k : Fin 31)
    (hk : sortedFrom (fun k k' : Fin 31 => cmp (x (ix3 b t k), y (ix3 b t k)) (x (ix3 b t k'), y (ix3 b t k')) == 1#1) r = k) :
    (Host.sort2 S128x31x31 2 cmp x y).1 (ix3 b t r) = x (ix3 b t k) := (sort2_apply cmp x y b t r k hk).1

/-- The second array of such a sort, read. -/
theorem sort2_snd {α β : Type} (cmp : α × β → α × β → BitVec 1) (x : S128x31x31.Idx → α) (y : S128x31x31.Idx → β) (b : Fin 128) (t r k : Fin 31)
    (hk : sortedFrom (fun k k' : Fin 31 => cmp (x (ix3 b t k), y (ix3 b t k)) (x (ix3 b t k'), y (ix3 b t k')) == 1#1) r = k) :
    (Host.sort2 S128x31x31 2 cmp x y).2 (ix3 b t r) = y (ix3 b t k) := (sort2_apply cmp x y b t r k hk).2

/-- The first places, read. -/
theorem first_apply {α : Type} (x : S128x31x31.Idx → α) (b : Fin 128) (t : Fin 31) (r : Fin 10) :
    extractStridedSlice S128x31x10 (fun _ => 0) x sliceFits_S128x31x31_S128x31x10 (ix3 b t r) = x (ix3 b t (r.castLE (by decide))) :=
  congrArg x (ix3_of _ _ _ _ (Fin.ext (Nat.zero_add _)) (Fin.ext (Nat.zero_add _)) (Fin.ext (Nat.zero_add _)))

/-- The comparison the sort uses. -/
theorem place_eq (S : FVec Ideal S128x31x31 .f32) (b : Fin 128) (t r : Fin 31) :
    sortedFrom (fun k k' : Fin 31 => FloatOps.cmpfTotal (F := Ideal) (φ := .f32) .gt (S (ix3 b t k)) (S (ix3 b t k')) == 1#1) r = topS S b t r :=
  congrArg (fun f => sortedFrom f r) (funext fun k => funext fun k' => cmp_gt _ _)

/-- The largest scores, read. -/
theorem topK_val (S : FVec Ideal S128x31x31 .f32) (b : Fin 128) (t : Fin 31) (r : Fin 10) :
    (Host.topK S128x31x10 2 (FloatOps.cmpfTotal (F := Ideal) (φ := .f32) .gt) S sliceFits_S128x31x31_S128x31x10).1 (ix3 b t r)
      = S (ix3 b t (topS S b t (r.castLE (by decide)))) := by
  unfold Host.topK
  dsimp only
  rw [first_apply]
  refine sort2_fst _ S _ b t _ _ ?_
  exact place_eq S b t _

/-- The largest scores' places, read. -/
theorem topK_idx (S : FVec Ideal S128x31x31 .f32) (b : Fin 128) (t : Fin 31) (r : Fin 10) :
    (Host.topK S128x31x10 2 (FloatOps.cmpfTotal (F := Ideal) (φ := .f32) .gt) S sliceFits_S128x31x31_S128x31x10).2 (ix3 b t r)
      = BitVec.ofNat 32 (topS S b t (r.castLE (by decide))).val := by
  unfold Host.topK
  dsimp only
  rw [first_apply]
  refine (sort2_snd _ S _ b t _ (topS S b t (r.castLE (by decide))) ?_).trans ?_
  · exact place_eq S b t _
  · rfl

/-- A place is not wrapped and not clamped. -/
theorem place_wrap (k : Fin 31) : min (wrapI 31#32 (BitVec.ofNat 32 k.val)).toInt.toNat (31 - 1) = k.val := by
  revert k
  decide

/-- Wrapped places, read. -/
theorem idxB (i : IVec S128x31x10 32) (b : Fin 128) (t : Fin 31) (r : Fin 10) :
    broadcastInDim S128x31x10x1 ![0, 1, 2] bcast_S128x31x10_S128x31x10x1_0_1_2 (select (cmpi .slt i (broadcastInDim S128x31x10 ![] bcast_S_S128x31x10 (constantI S_ 32 0#32)))
      (addi i (broadcastInDim S128x31x10 ![] bcast_S_S128x31x10 (constantI S_ 32 31#32))) i) (ix4 b t r 0) = wrapI 31#32 (i (ix3 b t r)) := by
  pointwise
  rfl

/-- A batch's rows, read. -/
theorem gatherB (H : FVec Ideal S128x31x256 .f32) (i : IVec S128x31x10 32) (b : Fin 128) (t : Fin 31) (r : Fin 10) (d : Fin 256) (k : Fin 31)
    (hi : i (ix3 b t r) = BitVec.ofNat 32 k.val) :
    Host.gather gather_S128x31x256_S128x31x10x1_S128x31x10x256_3_1_0_0_1_3_11256 H (broadcastInDim S128x31x10x1 ![0, 1, 2] bcast_S128x31x10_S128x31x10x1_0_1_2
      (select (cmpi .slt i (broadcastInDim S128x31x10 ![] bcast_S_S128x31x10 (constantI S_ 32 0#32)))
      (addi i (broadcastInDim S128x31x10 ![] bcast_S_S128x31x10 (constantI S_ 32 31#32))) i)) (ix4 b t r d) = H (ix3 b k d) := by
  have hm : (gather_S128x31x256_S128x31x10x1_S128x31x10x256_3_1_0_0_1_3_11256).startIndexMap = [1] := rfl
  refine gather_at _ H _ _ _ fun a => ?_
  match a with
  | ⟨0, _⟩ =>
    unfold GatherDims.start
    rw [dif_neg (by rw [hm]; simp)]
    exact (Nat.zero_add _).trans rfl
  | ⟨1, _⟩ =>
    have h := start_single gather_S128x31x256_S128x31x10x1_S128x31x10x256_3_1_0_0_1_3_11256 (broadcastInDim S128x31x10x1 ![0, 1, 2] bcast_S128x31x10_S128x31x10x1_0_1_2
      (select (cmpi .slt i (broadcastInDim S128x31x10 ![] bcast_S_S128x31x10 (constantI S_ 32 0#32)))
      (addi i (broadcastInDim S128x31x10 ![] bcast_S_S128x31x10 (constantI S_ 32 31#32))) i)) (ix4 b t r d) 1 hm (ix4 b t r 0) (fun h => ix4_of _ _ _ _ _ rfl rfl rfl rfl)
    rw [idxB, hi] at h
    exact h.trans (place_wrap k)
  | ⟨2, _⟩ =>
    unfold GatherDims.start
    rw [dif_neg (by rw [hm]; simp)]
    exact (Nat.zero_add _).trans rfl

/-- The bits of minus infinity. -/
theorem ofBits_bot : Ideal.ofBits FTy.f32 0xFF800000#32 = ⊥ := by simp [Ideal.ofBits, Ideal.ieee]

/-- Masked products of rows, read. -/
theorem masked_apply (A D : FVec Ideal S128x31x256 .f32) (b : Fin 128) (t τ : Fin 31) :
    select (broadcastInDim S128x31x31 ![0, 1, 2] bcast_S1x31x31_S128x31x31_0_1_2 (broadcastInDim S1x31x31 ![1, 2] bcast_S31x31_S1x31x31_1_2 (cmpi .sle (broadcastInDim S31x31 ![0, 1] bcast_S1x31_S31x31_0_1 (broadcastInDim S1x31 ![1] bcast_S31_S1x31_1 (iotaInDim S31 32 0))) (broadcastInDim S31x31 ![0, 1] bcast_S31x1_S31x31_0_1 (broadcastInDim S31x1 ![0] bcast_S31_S31x1_0 (iotaInDim S31 32 0)))))) (Host.dotGeneral dot_S128x31x256_S128x31x256_S128x31x31_2_2_1_1_0_0 none A D) (broadcastInDim S128x31x31 ![] bcast_S_S128x31x31 (id (constant (F := Ideal) S_ .f32 0xFF800000#32))) (ix3 b t τ)
      = if τ ≤ t then ∑ d : Fin 256, A (ix3 b t d) * D (ix3 b τ d) else ⊥ := by
  pointwise
  rw [WordCmp.cmpi_sle_ofNat (by omega) (by omega), select_ofBool]
  by_cases h : τ ≤ t
  · exact (if_pos h).trans (if_pos h).symm
  · exact (if_neg h).trans (ofBits_bot.trans (if_neg h).symm)

/-- A row after the first, read. -/
theorem later_apply (A : FVec Ideal S128x32x256 .f32) (b : Fin 128) (t : Fin 31) (d : Fin 256) :
    extractStridedSlice S128x31x256 ![0, 1, 0] A slices_S128x32x256_S128x31x256_0_1_0 (ix3 b t d) = A (ix3 b ⟨1 + t.val, by omega⟩ d) := by
  pointwise

/-- A row before the last, read. -/
theorem earlier_apply (A : FVec Ideal S128x32x256 .f32) (b : Fin 128) (t : Fin 31) (d : Fin 256) :
    extractStridedSlice S128x31x256 ![0, 0, 0] A slices_S128x32x256_S128x31x256_0_0_0 (ix3 b t d) = A (ix3 b t.castSucc d) := by
  pointwise
  rfl

/-- The masked scores, read. -/
theorem v342_apply (V : Vals) (b : Fin 128) (t τ : Fin 31) (x : Fin 31 → ℝ)
    (hx : ∀ τ : Fin 31, (∑ d : Fin 256, (sEq (V (Proc.devRef .tc main_arg0)) (V (Proc.devRef .tc main_arg8)) b ⟨1 + t.val, by omega⟩ d) *
      (sEq (V (Proc.devRef .tc main_arg0)) (V (Proc.devRef .tc main_arg8)) b τ.castSucc d)) = (x τ : EReal)) :
    res_main_v342 V (ix3 b t τ) = vm x t τ := by
  unfold res_main_v342 vm
  refine (masked_apply (res_main_v331 V) _ b t τ).trans ?_
  rw [← hx]
  refine congrArg (fun z : EReal => if τ ≤ t then z else ⊥) (Finset.sum_congr rfl fun d _ => congrArg₂ (· * ·) ?_ ?_)
  · exact (later_apply (res_main_v39 V) b t d).trans (v39_apply V b _ d)
  · exact (earlier_apply (res_main_v39 V) b τ d).trans (v39_apply V b _ d)

/-- The reference's recap and state, read over the weights. -/
theorem mix_apply (H : FVec Ideal S128x31x256 .f32) (P : FVec Ideal S128x31x10 .f32) (M : FVec Ideal S128x31x10x256 .f32) (b : Fin 128) (t : Fin 31) (d : Fin 256) :
    addf H (Host.reduceAdd (mulf (broadcastInDim S128x31x10x256 ![0, 1, 2, 3] bcast_S128x31x10x1_S128x31x10x256_0_1_2_3 (broadcastInDim S128x31x10x1 ![0, 1, 2] bcast_S128x31x10_S128x31x10x1_0_1_2 (Host.divf P (broadcastInDim S128x31x10 ![0, 1, 2] bcast_S128x31x1_S128x31x10_0_1_2 (broadcastInDim S128x31x1 ![0, 1] bcast_S128x31_S128x31x1_0_1 (Host.reduceAdd P (constant S_ .f32 0x00000000#32) reducesTo_S128x31x10_S128x31_d2 h_S_)))))) M) (constant S_ .f32 0x00000000#32) reducesTo_S128x31x10x256_S128x31x256_d2 h_S_) (ix3 b t d)
      = H (ix3 b t d) + ∑ r : Fin 10, Ideal.div (P (ix3 b t r)) (∑ r' : Fin 10, P (ix3 b t r')) * M (ix4 b t r d) := by
  pointwise

/-- Exponentials of the differences from the largest, read. -/
theorem exps_apply (P : FVec Ideal S128x31x10 .f32) (b : Fin 128) (t : Fin 31) (r : Fin 10) :
    Host.exp (subf P (broadcastInDim S128x31x10 ![0, 1, 2] bcast_S128x31x1_S128x31x10_0_1_2 (broadcastInDim S128x31x1 ![0, 1] bcast_S128x31_S128x31x1_0_1 (maximumf (broadcastInDim S128x31 ![] bcast_S_S128x31 (constant S_ .f32 0xFF800000#32)) (Host.reduce FloatOps.maximumf P (constant S_ .f32 0xFF800000#32) reducesTo_S128x31x10_S128x31_d2 h_S_))))) (ix3 b t r)
      = Ideal.exp (P (ix3 b t r) - Finset.univ.fold max ⊥ (fun r' : Fin 10 => P (ix3 b t r'))) := by
  pointwise
  rw [ofBits_bot, max_eq_right bot_le]

/-- The largest scores, over a row's real scores. -/
theorem vals_apply (S : FVec Ideal S128x31x31 .f32) (b : Fin 128) (t : Fin 31) (x : Fin 31 → ℝ) (h : ∀ τ, S (ix3 b t τ) = vm x t τ) (r : Fin 10) :
    (Host.topK S128x31x10 2 (FloatOps.cmpfTotal (F := Ideal) (φ := .f32) .gt) S sliceFits_S128x31x31_S128x31x10).1 (ix3 b t r)
      = vm x t (sortedFrom (gtB (vm x t)) (r.castLE (by decide))) := by
  have e : (fun τ => S (ix3 b t τ)) = vm x t := funext h
  rw [topK_val, h]
  unfold topS
  rw [e]

/-- The largest scores' places, over a row's real scores. -/
theorem idxs_apply (S : FVec Ideal S128x31x31 .f32) (b : Fin 128) (t : Fin 31) (x : Fin 31 → ℝ) (h : ∀ τ, S (ix3 b t τ) = vm x t τ) (r : Fin 10) :
    (Host.topK S128x31x10 2 (FloatOps.cmpfTotal (F := Ideal) (φ := .f32) .gt) S sliceFits_S128x31x31_S128x31x10).2 (ix3 b t r)
      = BitVec.ofNat 32 (sortedFrom (gtB (vm x t)) (r.castLE (by decide))).val := by
  have e : (fun τ => S (ix3 b t τ)) = vm x t := funext h
  rw [topK_idx]
  unfold topS
  rw [e]

/-- The reference's state and recap, over a row's real scores. -/
theorem mixed_apply (H : FVec Ideal S128x31x256 .f32) (P : FVec Ideal S128x31x10 .f32) (M : FVec Ideal S128x31x10x256 .f32) (b : Fin 128) (t : Fin 31)
    (x : Fin 31 → ℝ) (hP : ∀ r, P (ix3 b t r) = Ideal.exp (vm x t (sortedFrom (gtB (vm x t)) (r.castLE (by decide)))
      - Finset.univ.fold max (⊥ : EReal) (fun r : Fin 10 => vm x t (sortedFrom (gtB (vm x t)) (r.castLE (by decide))))))
    (hM : ∀ r d, M (ix4 b t r d) = H (ix3 b (sortedFrom (gtB (vm x t)) (r.castLE (by decide))) d)) (d : Fin 256) :
    addf H (Host.reduceAdd (mulf (broadcastInDim S128x31x10x256 ![0, 1, 2, 3] bcast_S128x31x10x1_S128x31x10x256_0_1_2_3 (broadcastInDim S128x31x10x1 ![0, 1, 2] bcast_S128x31x10_S128x31x10x1_0_1_2 (Host.divf P (broadcastInDim S128x31x10 ![0, 1, 2] bcast_S128x31x1_S128x31x10_0_1_2 (broadcastInDim S128x31x1 ![0, 1] bcast_S128x31_S128x31x1_0_1 (Host.reduceAdd P (constant S_ .f32 0x00000000#32) reducesTo_S128x31x10_S128x31_d2 h_S_)))))) M) (constant S_ .f32 0x00000000#32) reducesTo_S128x31x10x256_S128x31x256_d2 h_S_) (ix3 b t d)
      = H (ix3 b t d) + ∑ τ : Fin 31, ((wt (Kp x t) x τ : ℝ) : EReal) * H (ix3 b τ d) := by
  obtain ⟨μ, hμ⟩ := max_coe x t
  rw [mix_apply, ← sum_recap x t μ (fun τ => H (ix3 b τ d))]
  simp only [hP, hM, hμ]

end Cert.ReferenceIdeal.Value
-- ==== Proof.Ref.OutIdx.lean ====
module

public import proofs.«01_k».proof.Proof.Ref.TopIdx

@[expose] public section

set_option maxRecDepth 16384

noncomputable section

namespace Cert.ReferenceIdeal.Value

open Cert.ReferenceIdeal Cert.ReferenceIdeal.Gen Idealize.ShloMosaic Idealize.ShloMosaic.TcCoe
open Cert.Recap

/-! # The reference's result at an index -/

/-- The result from its two halves before the weights. -/
def outArr (A B : FVec Ideal S128x31x256 .f32) (w : FVec Ideal S512 .f32) : FVec Ideal S128x32 .f32 :=
  concatenate S128x32 1 [⟨S128x1, (broadcastInDim S128x1 ![] bcast_S_S128x1 (constant (F := Ideal) S_ .f32 0x3F000000#32))⟩, ⟨S128x31, (Host.divf (broadcastInDim S128x31 ![] bcast_S_S128x31 (constant (F := Ideal) S_ .f32 0x3F800000#32)) (addf (broadcastInDim S128x31 ![] bcast_S_S128x31 (constant (F := Ideal) S_ .f32 0x3F800000#32)) (Host.exp (Host.negf (Host.dotGeneral dot_S128x31x512_S512_S128x31_2_0_01_n_n_n none (concatenate S128x31x512 2 [⟨S128x31x256, A⟩, ⟨S128x31x256, B⟩] concatenates_S128x31x256_S128x31x256_S128x31x512_d2) w)))))⟩] concatenates_S128x1_S128x31_S128x32_d1

/-- The result's first column. -/
theorem outArr_first (A B : FVec Ideal S128x31x256 .f32) (w : FVec Ideal S512 .f32) (b : Fin 128) :
    outArr A B w (ix2 b 0) = Ideal.ofBits FTy.f32 0x3F000000#32 := by
  unfold outArr
  pointwise

/-- The result's other columns. -/
theorem outArr_next (A B : FVec Ideal S128x31x256 .f32) (w : FVec Ideal S512 .f32) (b : Fin 128) (t : Fin 31) :
    outArr A B w (ix2 b ⟨1 + t.val, by omega⟩) = Ideal.logistic ((∑ d : Fin 256, A (ix3 b t d) * w (ix1 ⟨d.val, by omega⟩))
      + ∑ d : Fin 256, B (ix3 b t d) * w (ix1 ⟨256 + d.val, by omega⟩)) := by
  unfold outArr Ideal.logistic
  pointwise

/-- The exponentials of the largest scores. -/
def expArr (Q : FVec Ideal S128x31x10 .f32) : FVec Ideal S128x31x10 .f32 :=
  Host.exp (subf Q (broadcastInDim S128x31x10 ![0, 1, 2] bcast_S128x31x1_S128x31x10_0_1_2 (broadcastInDim S128x31x1 ![0, 1] bcast_S128x31_S128x31x1_0_1 (maximumf (broadcastInDim S128x31 ![] bcast_S_S128x31 (constant S_ .f32 0xFF800000#32)) (Host.reduce FloatOps.maximumf Q (constant S_ .f32 0xFF800000#32) reducesTo_S128x31x10_S128x31_d2 h_S_)))))

/-- States plus their recap, from the largest scores and their places. -/
def recArr (H : FVec Ideal S128x31x256 .f32) (Q : FVec Ideal S128x31x10 .f32) (i : IVec S128x31x10 32) : FVec Ideal S128x31x256 .f32 :=
  addf H (Host.reduceAdd (mulf (broadcastInDim S128x31x10x256 ![0, 1, 2, 3] bcast_S128x31x10x1_S128x31x10x256_0_1_2_3 (broadcastInDim S128x31x10x1 ![0, 1, 2] bcast_S128x31x10_S128x31x10x1_0_1_2 (Host.divf (expArr Q) (broadcastInDim S128x31x10 ![0, 1, 2] bcast_S128x31x1_S128x31x10_0_1_2 (broadcastInDim S128x31x1 ![0, 1] bcast_S128x31_S128x31x1_0_1 (Host.reduceAdd (expArr Q) (constant S_ .f32 0x00000000#32) reducesTo_S128x31x10_S128x31_d2 h_S_)))))) (Host.gather gather_S128x31x256_S128x31x10x1_S128x31x10x256_3_1_0_0_1_3_11256 H (broadcastInDim S128x31x10x1 ![0, 1, 2] bcast_S128x31x10_S128x31x10x1_0_1_2 (select (cmpi .slt i (broadcastInDim S128x31x10 ![] bcast_S_S128x31x10 (constantI S_ 32 0#32))) (addi i (broadcastInDim S128x31x10 ![] bcast_S_S128x31x10 (constantI S_ 32 31#32))) i)))) (constant S_ .f32 0x00000000#32) reducesTo_S128x31x10x256_S128x31x256_d2 h_S_)

/-- States plus their recap, read. -/
theorem recArr_apply (H : FVec Ideal S128x31x256 .f32) (Q : FVec Ideal S128x31x10 .f32) (i : IVec S128x31x10 32) (b : Fin 128) (t : Fin 31) (x : Fin 31 → ℝ)
    (hQ : ∀ r, Q (ix3 b t r) = vm x t (sortedFrom (gtB (vm x t)) (r.castLE (by decide))))
    (hi : ∀ r, i (ix3 b t r) = BitVec.ofNat 32 (sortedFrom (gtB (vm x t)) (r.castLE (by decide))).val) (d : Fin 256) :
    recArr H Q i (ix3 b t d) = H (ix3 b t d) + ∑ τ : Fin 31, ((wt (Kp x t) x τ : ℝ) : EReal) * H (ix3 b τ d) := by
  unfold recArr
  refine mixed_apply H (expArr Q) _ b t x (fun r => ?_) (fun r d => gatherB H i b t r d _ (hi r)) d
  unfold expArr
  rw [exps_apply, hQ, funext hQ]

/-- The first half: the states plus the recap. -/
def mixArr (V : Vals) : FVec Ideal S128x31x256 .f32 := recArr (res_main_v330 V) (res_main_values V) (res_main_indices V)

/-- The second half: the embeddings of the next question. -/
def embArr (V : Vals) : FVec Ideal S128x31x256 .f32 :=
  addf (res_main_v331 V) (extractStridedSlice S128x31x256 ![0, 1, 0] (res_main_v88 V) slices_S128x32x256_S128x31x256_0_1_0)

/-- The reference's result over the arguments. -/
def rOut (V : Vals) : FVec Ideal S128x32 .f32 := outArr (mixArr V) (embArr V) (V (Proc.devRef .tc main_arg15))

/-- The second half, read. -/
theorem embArr_apply (V : Vals) (b : Fin 128) (t : Fin 31) (d : Fin 256) :
    embArr V (ix3 b t d) = sEq (V (Proc.devRef .tc main_arg0)) (V (Proc.devRef .tc main_arg8)) b ⟨1 + t.val, by omega⟩ d
      + sEq (V (Proc.devRef .tc main_arg0)) (V (Proc.devRef .tc main_arg11)) b ⟨1 + t.val, by omega⟩ d :=
  congrArg₂ (· + ·) ((later_apply (res_main_v39 V) b t d).trans (v39_apply V b _ d)) ((later_apply (res_main_v88 V) b t d).trans (v88_apply V b _ d))

/-- The largest scores, over the arguments. -/
theorem values_apply (V : Vals) (b : Fin 128) (t : Fin 31) (x : Fin 31 → ℝ) (h : ∀ τ : Fin 31, res_main_v342 V (ix3 b t τ) = vm x t τ) (r : Fin 10) :
    res_main_values V (ix3 b t r) = vm x t (sortedFrom (gtB (vm x t)) (r.castLE (by decide))) := by
  unfold res_main_values
  exact vals_apply (res_main_v342 V) b t x h r

/-- The largest scores' places, over the arguments. -/
theorem indices_apply (V : Vals) (b : Fin 128) (t : Fin 31) (x : Fin 31 → ℝ) (h : ∀ τ : Fin 31, res_main_v342 V (ix3 b t τ) = vm x t τ) (r : Fin 10) :
    res_main_indices V (ix3 b t r) = BitVec.ofNat 32 (sortedFrom (gtB (vm x t)) (r.castLE (by decide))).val := by
  unfold res_main_indices
  exact idxs_apply (res_main_v342 V) b t x h r

/-- The first half, read. -/
theorem mixArr_apply (V : Vals) (b : Fin 128) (t : Fin 31) (x : Fin 31 → ℝ)
    (hx : ∀ τ : Fin 31, (∑ d : Fin 256, (sEq (V (Proc.devRef .tc main_arg0)) (V (Proc.devRef .tc main_arg8)) b ⟨1 + t.val, by omega⟩ d) *
      (sEq (V (Proc.devRef .tc main_arg0)) (V (Proc.devRef .tc main_arg8)) b τ.castSucc d)) = (x τ : EReal)) (d : Fin 256) :
    mixArr V (ix3 b t d) = rSt V (t.val + 1) b d + ∑ τ : Fin 31, ((wt (Kp x t) x τ : ℝ) : EReal) * rSt V (τ.val + 1) b d := by
  have h : ∀ τ : Fin 31, res_main_v342 V (ix3 b t τ) = vm x t τ := fun τ => v342_apply V b t τ x hx
  unfold mixArr
  refine (recArr_apply _ _ _ b t x (values_apply V b t x h) (indices_apply V b t x h) d).trans ?_
  exact congrArg₂ (· + ·) (v330_apply V b t d) (Finset.sum_congr rfl fun τ _ => congrArg (_ * ·) (v330_apply V b τ d))

/-- The result's columns after the first, over the arguments. -/
theorem rOut_next (V : Vals) (b : Fin 128) (t : Fin 31) (x : Fin 31 → ℝ)
    (hx : ∀ τ : Fin 31, (∑ d : Fin 256, (sEq (V (Proc.devRef .tc main_arg0)) (V (Proc.devRef .tc main_arg8)) b ⟨1 + t.val, by omega⟩ d) *
      (sEq (V (Proc.devRef .tc main_arg0)) (V (Proc.devRef .tc main_arg8)) b τ.castSucc d)) = (x τ : EReal))
    (w : FVec Ideal S512 .f32) (hw : V (Proc.devRef .tc main_arg15) = w) :
    rOut V (ix2 b ⟨1 + t.val, by omega⟩) = Ideal.logistic
      ((∑ d : Fin 256, (rSt V (t.val + 1) b d + ∑ τ : Fin 31, ((wt (Kp x t) x τ : ℝ) : EReal) * rSt V (τ.val + 1) b d) * w (ix1 ⟨d.val, by omega⟩))
      + ∑ d : Fin 256, (sEq (V (Proc.devRef .tc main_arg0)) (V (Proc.devRef .tc main_arg8)) b ⟨1 + t.val, by omega⟩ d
      + sEq (V (Proc.devRef .tc main_arg0)) (V (Proc.devRef .tc main_arg11)) b ⟨1 + t.val, by omega⟩ d) * w (ix1 ⟨256 + d.val, by omega⟩)) := by
  unfold rOut
  rw [hw, outArr_next]
  simp only [mixArr_apply V b t x hx, embArr_apply]

end Cert.ReferenceIdeal.Value
-- ==== Proof.Ideal.HostIdx.lean ====
module

public import proofs.«01_k».proof.Proof.Ideal.HostVal
public import proofs.«01_k».proof.Proof.Math.Spec
public import Idealize.ShloMosaic.Lib.Pointwise.Tactic

@[expose] public section

set_option maxRecDepth 16384

noncomputable section

namespace Cert.KernelIdeal.Gen

open Idealize.ShloMosaic Idealize.ShloMosaic.TcCoe Idealize.ShloMosaic.Tactic
open Cert.Recap

/-! # The kernel's host arrays at an index -/

/-- Step `t` of row `b` in the flat layout. -/
abbrev fl (b : Fin 128) (t : Fin 32) : Fin 4096 := ⟨t.val * 128 + b.val, by omega⟩

/-- The flat layout, read. -/
theorem kFlat_apply (a : IVec S128x32 32) (b : Fin 128) (t : Fin 32) : kFlat a (ix1 (fl b t)) = a (ix2 b t) := by
  unfold kFlat
  rw [Idealize.ShloMosaic.shapeCast_apply _ _ _ (ix2 t b) (by rw [Shape.rowMajor_val_two, Shape.rowMajor_val_one]; rfl)]
  pointwise

/-- The flat indices, read. -/
theorem kIdx_apply (n : BitVec 32) (a : IVec S128x32 32) (b : Fin 128) (t : Fin 32) : kIdx n a (ix2 (fl b t) 0) = wrapI n (a (ix2 b t)) := by
  rw [← kFlat_apply a b t]
  rfl

/-- An index of rank two from its coordinates. -/
theorem ix2_of {n k : ℕ} (x : (⟨2, ![n, k]⟩ : Shape).Idx) (i : Fin n) (j : Fin k) (h0 : x 0 = i) (h1 : x 1 = j) : x = ix2 i j := by
  funext a
  match a with
  | ⟨0, _⟩ => exact h0
  | ⟨1, _⟩ => exact h1

/-- An index of rank three from its coordinates. -/
theorem ix3_of {n k l : ℕ} (x : (⟨3, ![n, k, l]⟩ : Shape).Idx) (i : Fin n) (j : Fin k) (m : Fin l) (h0 : x 0 = i) (h1 : x 1 = j) (h2 : x 2 = m) :
    x = ix3 i j m := by
  funext a
  match a with
  | ⟨0, _⟩ => exact h0
  | ⟨1, _⟩ => exact h1
  | ⟨2, _⟩ => exact h2

/-- The questions' embeddings, read. -/
theorem kEq_apply (a0 : IVec S128x32 32) (a8 : FVec Ideal S10000x256 .f32) (b : Fin 128) (t : Fin 32) (d : Fin 256) :
    kEq a0 a8 (ix2 (fl b t) d) = sEq a0 a8 b t d := by
  unfold kEq
  rw [gather_rows gather_S10000x256_S4096x1_S4096x256_1_0_n_n_0_1_1256 a8 _ _ (by decide) rfl rfl rfl rfl (ix2 (fl b t) 0)
    (fun h => ix2_of _ _ _ rfl rfl) d rfl, kIdx_apply]
  rfl

/-- The users' embeddings, read. -/
theorem kEu_apply (a3 : IVec S128x32 32) (a10 : FVec Ideal S4096x256 .f32) (b : Fin 128) (t : Fin 32) (d : Fin 256) :
    kEu a3 a10 (ix2 (fl b t) d) = a10 (ix2 (rowW 4096 (by decide) 4096#32 (a3 (ix2 b t))) d) := by
  unfold kEu
  rw [gather_rows gather_S4096x256_S4096x1_S4096x256_1_0_n_n_0_1_1256 a10 _ _ (by decide) rfl rfl rfl rfl (ix2 (fl b t) 0)
    (fun h => ix2_of _ _ _ rfl rfl) d rfl, kIdx_apply]

/-- The questions' neighbours, read. -/
theorem kNb_apply (a0 : IVec S128x32 32) (a4 : IVec S10000x8 32) (b : Fin 128) (t : Fin 32) (j : Fin 8) :
    kNb a0 a4 (ix2 (fl b t) j) = sNb a0 a4 b t j := by
  unfold kNb
  rw [gather_rows gather_S10000x8_S4096x1_S4096x8_1_0_n_n_0_1_18 a4 _ _ (by decide) rfl rfl rfl rfl (ix2 (fl b t) 0)
    (fun h => ix2_of _ _ _ rfl rfl) j rfl, kIdx_apply]
  rfl

/-- The wrapped indices of the skills' neighbours, read. -/
theorem idx_S512x4 (n : BitVec 32) (i : IVec S512x4 32) (s : Fin 512) (k : Fin 4) :
    broadcastInDim S512x4x1 ![0, 1] bcast_S512x4_S512x4x1_0_1 (kWrap S512x4 bcast_S_S512x4 n i) (ix3 s k 0) = wrapI n (i (ix2 s k)) := by
  pointwise
  rfl

/-- The wrapped indices of the users' neighbours, read. -/
theorem idx_S4096x4 (n : BitVec 32) (i : IVec S4096x4 32) (s : Fin 4096) (k : Fin 4) :
    broadcastInDim S4096x4x1 ![0, 1] bcast_S4096x4_S4096x4x1_0_1 (kWrap S4096x4 bcast_S_S4096x4 n i) (ix3 s k 0) = wrapI n (i (ix2 s k)) := by
  pointwise
  rfl

/-- The wrapped indices of the questions' neighbours, read. -/
theorem idx_S4096x8 (n : BitVec 32) (i : IVec S4096x8 32) (s : Fin 4096) (k : Fin 8) :
    broadcastInDim S4096x8x1 ![0, 1] bcast_S4096x8_S4096x8x1_0_1 (kWrap S4096x8 bcast_S_S4096x8 n i) (ix3 s k 0) = wrapI n (i (ix2 s k)) := by
  pointwise
  rfl

/-- The skills' table, read. -/
theorem kT1_apply (a5 : IVec S512x4 32) (a8 : FVec Ideal S10000x256 .f32) (a9 : FVec Ideal S512x256 .f32) (s : Fin 512) (d : Fin 256) :
    kT1 a5 a8 a9 (ix2 s d) = sTab a5 a8 a9 s d := by
  unfold kT1 sTab
  pointwise
  refine congrArg (fun z => Ideal.tanh (_ + Ideal.div z _)) (Finset.sum_congr rfl fun k _ => ?_)
  rw [gather_rows gather_S10000x256_S512x4x1_S512x4x256_2_0_n_n_0_2_1256 a8 _ _ (by decide) rfl rfl rfl rfl (ix3 s k 0)
    (fun h => ix3_of _ _ _ _ rfl rfl rfl) d rfl, idx_S512x4]

/-- The users' table, read. -/
theorem kT2_apply (a7 : IVec S4096x4 32) (a11 : FVec Ideal S10000x256 .f32) (a10 : FVec Ideal S4096x256 .f32) (s : Fin 4096) (d : Fin 256) :
    kT2 a7 a11 a10 (ix2 s d) = sTab a7 a11 a10 s d := by
  unfold kT2 sTab
  pointwise
  refine congrArg (fun z => Ideal.tanh (_ + Ideal.div z _)) (Finset.sum_congr rfl fun k _ => ?_)
  rw [gather_rows gather_S10000x256_S4096x4x1_S4096x4x256_2_0_n_n_0_2_1256 a11 _ _ (by decide) rfl rfl rfl rfl (ix3 s k 0)
    (fun h => ix3_of _ _ _ _ rfl rfl rfl) d rfl, idx_S4096x4]

/-- The mean over a question's skills, read. -/
theorem kAgg1_apply (T : FVec Ideal S512x256 .f32) (a0 : IVec S128x32 32) (a4 : IVec S10000x8 32) (b : Fin 128) (t : Fin 32) (d : Fin 256) :
    kAgg1 T (kNb a0 a4) (ix2 (fl b t) d) = sAgg (by decide) 512#32 (fun s d => T (ix2 s d)) a0 a4 b t d := by
  unfold kAgg1 sAgg
  pointwise
  refine congrArg (fun z => Ideal.div z _) (Finset.sum_congr rfl fun j _ => ?_)
  rw [gather_rows gather_S512x256_S4096x8x1_S4096x8x256_2_0_n_n_0_2_1256 T _ _ (by decide) rfl rfl rfl rfl (ix3 (fl b t) j 0)
    (fun h => ix3_of _ _ _ _ rfl rfl rfl) d rfl, idx_S4096x8, kNb_apply]

/-- The mean over a question's users, read. -/
theorem kAgg2_apply (T : FVec Ideal S4096x256 .f32) (a0 : IVec S128x32 32) (a4 : IVec S10000x8 32) (b : Fin 128) (t : Fin 32) (d : Fin 256) :
    kAgg2 T (kNb a0 a4) (ix2 (fl b t) d) = sAgg (by decide) 4096#32 (fun s d => T (ix2 s d)) a0 a4 b t d := by
  unfold kAgg2 sAgg
  pointwise
  refine congrArg (fun z => Ideal.div z _) (Finset.sum_congr rfl fun j _ => ?_)
  rw [gather_rows gather_S4096x256_S4096x8x1_S4096x8x256_2_0_n_n_0_2_1256 T _ _ (by decide) rfl rfl rfl rfl (ix3 (fl b t) j 0)
    (fun h => ix3_of _ _ _ _ rfl rfl rfl) d rfl, idx_S4096x8, kNb_apply]

/-- The first operand of the recurrence call, read. -/
theorem kXin1_apply (a0 a2 a3 : IVec S128x32 32) (a4 : IVec S10000x8 32) (a5 : IVec S512x4 32) (a8 : FVec Ideal S10000x256 .f32)
    (a9 : FVec Ideal S512x256 .f32) (a10 : FVec Ideal S4096x256 .f32) (b : Fin 128) (t : Fin 32) (d : Fin 256) :
    kXin1 a0 a2 a3 a4 a5 a8 a9 a10 (ix2 (fl b t) d) = sX1 a0 a2 a3 a4 a5 a8 a9 a10 b t d := by
  unfold kXin1 kX1 kMask sX1
  pointwise
  rw [kFlat_apply, kEq_apply, kEu_apply, kAgg1_apply, funext fun s => funext fun d => kT1_apply a5 a8 a9 s d, select_eq]

/-- The second operand of the recurrence call, read. -/
theorem kXin2_apply (a0 : IVec S128x32 32) (a6 : IVec S10000x8 32) (a7 : IVec S4096x4 32) (a10 : FVec Ideal S4096x256 .f32)
    (a11 : FVec Ideal S10000x256 .f32) (b : Fin 128) (t : Fin 32) (d : Fin 256) :
    kXin2 a0 a6 a7 a10 a11 (ix2 (fl b t) d) = sX2 a0 a6 a7 a10 a11 b t d := by
  unfold kXin2 kX2 sX2
  pointwise
  rw [kEq_apply, kAgg2_apply, funext fun s => funext fun d => kT2_apply a7 a11 a10 s d]

/-- The responses, read. -/
theorem kResp_apply (a1 : IVec S128x32 32) (b : Fin 128) (t : Fin 32) : kResp (F := Ideal) a1 (ix2 (fl b t) 0) = (((a1 (ix2 b t)).toInt : ℝ) : EReal) := by
  unfold kResp
  show FloatOps.sitofp .f32 (shapeCast S4096x1 _ _ _) = _
  rw [Idealize.ShloMosaic.shapeCast_apply _ _ _ (ix2 t b) (by
    rw [Shape.rowMajor_val_two, Shape.rowMajor_val_two]
    show t.val * 128 + b.val = (t.val * 128 + b.val) * 1 + 0
    omega)]
  pointwise
  rfl

/-- The responses' part, read. -/
theorem kR_apply (a12 : FVec Ideal S2x256 .f32) (a13 : FVec Ideal S768x256 .f32) (i : Fin 2) (d : Fin 256) :
    kR a12 a13 (ix2 i d) = ∑ k : Fin 256, a12 (ix2 i k) * a13 (ix2 ⟨512 + k.val, by omega⟩ d) := by
  unfold kR
  pointwise

/-- The inputs of the recurrence, read. -/
theorem xhX_apply (x0 x1 : FVec Ideal S4096x256 .f32) (x2 : FVec Ideal S4096x1 .f32) (x3 x4 : FVec Ideal S256x256 .f32) (x5 : FVec Ideal S2x256 .f32)
    (n : Fin 4096) (d : Fin 256) : xhX (F := Ideal) x0 x1 x2 x3 x4 x5 (ix2 n d) =
      (((∑ k : Fin 256, x0 (ix2 n k) * x3 (ix2 k d)) + ∑ k : Fin 256, x1 (ix2 n k) * x4 (ix2 k d)) + x5 (ix2 0 d))
        + x2 (ix2 n 0) * (x5 (ix2 1 d) - x5 (ix2 0 d)) := by
  unfold xhX k0_pay2
  pointwise

/-- A step of the recurrence, read. -/
theorem k0_pay4_apply (wh : FVec Ideal S256x256 .f32) (h x : FVec Ideal S128x256 .f32) (b : Fin 128) (d : Fin 256) :
    k0_pay4 wh h x (ix2 b d) = Ideal.tanh (x (ix2 b d) + ∑ k : Fin 256, h (ix2 b k) * wh (ix2 k d)) := by
  unfold k0_pay4
  pointwise

/-- The weighted sum of the states, read. -/
theorem k0_pay1_apply (h : FVec Ideal S3968x256 .f32) (w : FVec Ideal S1x256 .f32) (n : Fin 3968) :
    k0_pay1 h w (ix2 n 0) = ∑ k : Fin 256, h (ix2 n k) * w (ix2 0 k) := by
  unfold k0_pay1
  pointwise

end Cert.KernelIdeal.Gen
-- ==== Proof.Ideal.StateIdx.lean ====
module

public import proofs.«01_k».proof.Proof.Ideal.HostIdx

@[expose] public section

set_option maxRecDepth 16384

noncomputable section

namespace Cert.KernelIdeal.Gen

open Idealize.ShloMosaic Idealize.ShloMosaic.TcCoe Idealize.ShloMosaic.Tactic
open Cert.Recap

/-! # The kernel's states and their weighted sums -/

/-- A step's block of the inputs, read. -/
theorem xhBlk_apply (X : Vec Ideal S4096x256 .f32) (k : Fin k0_t1_loop.trips) (b : Fin 128) (d : Fin 256) (hk : k.val < 32) :
    xhBlk X k (ix2 b d) = X (ix2 (fl b ⟨k.val, hk⟩) d) := by
  refine congrArg X (ix2_of _ _ _ (Fin.ext ?_) (Fin.ext ?_))
  · show (k0_off1 k) 0 + 1 * b.val = _
    rw [k0_off1_eq]; simp; omega
  · show (k0_off1 k) 1 + 1 * d.val = _
    rw [k0_off1_eq]; simp

/-- The states, read. -/
theorem xhSt_apply (wh : FVec Ideal S256x256 .f32) (X : FVec Ideal S4096x256 .f32) (n : ℕ) (hn : n ≤ 31) (b : Fin 128) (d : Fin 256) :
    xhSt (F := Ideal) wh X k0_pay3 n (ix2 b d) = sSt (fun b t d => X (ix2 (fl b t) d)) wh n b d := by
  induction n generalizing b d with
  | zero =>
    show k0_pay3 (F := Ideal) (ix2 b d) = 0
    unfold k0_pay3
    pointwise
  | succ n ih =>
    have ht : n < k0_t1_loop.trips := by rw [xhTrips]; omega
    rw [show xhSt (F := Ideal) wh X k0_pay3 (n + 1) = _ from xhSt_succ (F := Ideal) wh X k0_pay3 ⟨n, ht⟩, k0_pay4_apply, xhBlk_apply _ _ _ _ (by show n < 32; omega), sSt]
    beta_reduce
    rw [dif_pos (by omega : n < 32)]
    simp only [ih (by omega)]

/-- The recurrence call's result, read. -/
theorem xhOut_apply (x0 x1 : FVec Ideal S4096x256 .f32) (x2 : FVec Ideal S4096x1 .f32) (x3 x4 : FVec Ideal S256x256 .f32) (x5 : FVec Ideal S2x256 .f32)
    (x6 : FVec Ideal S256x256 .f32) (x7 : FVec Ideal S1x256 .f32) (b : Fin 128) (t : Fin 31) :
    xhOut (F := Ideal) x0 x1 x2 x3 x4 x5 x6 x7 (ix2 ⟨t.val * 128 + b.val, by omega⟩ 0) =
      ∑ d : Fin 256, sSt (fun b t d => xhX (F := Ideal) x0 x1 x2 x3 x4 x5 (ix2 (fl b t) d)) x6 (t.val + 1) b d * x7 (ix2 0 d) := by
  unfold xhOut
  rw [k0_pay1_apply]
  refine Finset.sum_congr rfl fun d _ => congrArg (· * _) ?_
  rw [← xhSt_apply _ _ _ (by omega)]
  unfold xhHist
  have h1 : (t.val * 128 + b.val) / 128 = t.val := by omega
  have h2 : (t.val * 128 + b.val) % 128 = b.val := by omega
  show xhSt _ _ _ ((t.val * 128 + b.val) / 128 + 1) (ValueIdx.ix2 ⟨(t.val * 128 + b.val) % 128, _⟩ d) = _
  rw [h1]
  exact congrArg _ (ix2_of _ _ _ (Fin.ext h2) rfl)

/-- The kernel's inputs of the recurrence over the arguments: adding the chosen response's difference to the first response's part is the
    chosen response's part. -/
theorem kX_apply (a0 a1 a2 a3 : IVec S128x32 32) (a4 : IVec S10000x8 32) (a5 : IVec S512x4 32) (a6 : IVec S10000x8 32) (a7 : IVec S4096x4 32)
    (a8 : FVec Ideal S10000x256 .f32) (a9 : FVec Ideal S512x256 .f32) (a10 : FVec Ideal S4096x256 .f32) (a11 : FVec Ideal S10000x256 .f32)
    (a12 : FVec Ideal S2x256 .f32) (a13 : FVec Ideal S768x256 .f32) (hb : ∀ i, a1 i = 0#32 ∨ a1 i = 1#32) (h12 : ∀ i, ∃ r : ℝ, a12 i = (r : EReal))
    (h13 : ∀ (k : Fin 256) (d : Fin 256), ∃ r : ℝ, a13 (ix2 ⟨512 + k.val, by omega⟩ d) = (r : EReal)) (b : Fin 128) (t : Fin 32) (d : Fin 256) :
    xhX (F := Ideal) (kXin1 a0 a2 a3 a4 a5 a8 a9 a10) (kXin2 a0 a6 a7 a10 a11) (kResp (F := Ideal) a1)
      (extractStridedSlice S256x256 ![0, 0] a13 slices_S768x256_S256x256_0_0) (extractStridedSlice S256x256 ![256, 0] a13 slices_S768x256_S256x256_256_0)
      (kR a12 a13) (ix2 (fl b t) d) = sX (sX1 a0 a2 a3 a4 a5 a8 a9 a10) (sX2 a0 a6 a7 a10 a11) a1 a12 a13 b t d := by
  rw [xhX_apply, kResp_apply, kR_apply, kR_apply]
  unfold sX
  simp only [kXin1_apply, kXin2_apply]
  pointwise
  have hr : ∀ i : Fin 2, ∃ r : ℝ, (∑ k : Fin 256, a12 (ix2 i k) * a13 (ix2 ⟨512 + k.val, by omega⟩ d)) = (r : EReal) := fun i => by
    choose u hu using h12
    choose v hv using fun k => h13 k d
    exact ⟨∑ k : Fin 256, u (ix2 i k) * v k, by simp only [hu, hv]; push_cast; rfl⟩
  obtain ⟨r0, h0⟩ := hr 0
  obtain ⟨r1, h1⟩ := hr 1
  rcases hb (ix2 b t) with e | e
  · have e2 : rowW 2 (by decide) 2#32 (a1 (ix2 b t)) = 0 := by rw [e]; decide
    rw [e2, e, h0, h1]
    simp
  · have e2 : rowW 2 (by decide) 2#32 (a1 (ix2 b t)) = 1 := by rw [e]; decide
    rw [e2, e, h0, h1]
    have e3 : (((1#32 : BitVec 32).toInt : ℝ) : EReal) = 1 := by norm_num
    rw [e3, one_mul, add_assoc (_ + _) (r0 : EReal), ← EReal.coe_sub, ← EReal.coe_add]
    congr 2
    ring

/-- The state scores over the arguments. -/
theorem kHw_apply (a0 a1 a2 a3 : IVec S128x32 32) (a4 : IVec S10000x8 32) (a5 : IVec S512x4 32) (a6 : IVec S10000x8 32) (a7 : IVec S4096x4 32)
    (a8 : FVec Ideal S10000x256 .f32) (a9 : FVec Ideal S512x256 .f32) (a10 : FVec Ideal S4096x256 .f32) (a11 : FVec Ideal S10000x256 .f32)
    (a12 : FVec Ideal S2x256 .f32) (a13 : FVec Ideal S768x256 .f32) (a14 : FVec Ideal S256x256 .f32) (a15 : FVec Ideal S512 .f32)
    (hb : ∀ i, a1 i = 0#32 ∨ a1 i = 1#32) (h12 : ∀ i, ∃ r : ℝ, a12 i = (r : EReal))
    (h13 : ∀ (k : Fin 256) (d : Fin 256), ∃ r : ℝ, a13 (ix2 ⟨512 + k.val, by omega⟩ d) = (r : EReal)) (b : Fin 128) (t : Fin 31) :
    kHw a0 a1 a2 a3 a4 a5 a6 a7 a8 a9 a10 a11 a12 a13 a14 a15 (ix2 ⟨t.val * 128 + b.val, by omega⟩ 0) =
      ∑ d : Fin 256, sSt (sX (sX1 a0 a2 a3 a4 a5 a8 a9 a10) (sX2 a0 a6 a7 a10 a11) a1 a12 a13) a14 (t.val + 1) b d * a15 (ix1 ⟨d.val, by omega⟩) := by
  unfold kHw
  rw [xhOut_apply]
  simp only [kX_apply a0 a1 a2 a3 a4 a5 a6 a7 a8 a9 a10 a11 a12 a13 hb h12 h13]
  refine Finset.sum_congr rfl fun d _ => congrArg (_ * ·) ?_
  unfold kw1
  pointwise

end Cert.KernelIdeal.Gen
-- ==== Proof.Ideal.RowIdx.lean ====
module

public import proofs.«01_k».proof.Proof.Ideal.StateIdx
public import proofs.«01_k».proof.Proof.Math.Softmax
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Cert.Recap

/-! # The attention kernel's rows at an index -/

/-- The scores of a row, read. -/
theorem attS_apply (e : FVec Ideal S32x1x256 .f32) (t : Fin 31) (τ : Fin 32) :
    attS (F := Ideal) e (ix2 t τ) = ∑ d : Fin 256, e (ix3 ⟨1 + t.val, by omega⟩ 0 d) * e (ix3 τ 0 d) := by
  unfold attS
  pointwise

/-- Whether column `j` beats column `τ` at step `t`. -/
def beats (S : FVec Ideal S31x32 .f32) (t : Fin 31) (τ : Fin 32) (j : ℕ) : Prop :=
  j ≤ t.val ∧ ∃ hj : j < 32, (S (ix2 t τ) < S (ix2 t ⟨j, hj⟩) ∨ (S (ix2 t ⟨j, hj⟩) = S (ix2 t τ) ∧ j < τ.val))

/-- Whether one step beats another is decidable. -/
instance (S : FVec Ideal S31x32 .f32) (t : Fin 31) (τ : Fin 32) : DecidablePred (beats S t τ) := fun _ => Classical.propDecidable _

/-- A column's contribution to the ranks, read. -/
theorem attStep_apply (S : FVec Ideal S31x32 .f32) (cnt : IVec S31x32 32) (j : ℕ) (hj : j < 32) (t : Fin 31) (τ : Fin 32) :
    attStep S cnt j hj (ix2 t τ) = cnt (ix2 t τ) + (if beats S t τ j then 1#32 else 0#32) := by
  have ht : t.val < 31 := t.isLt
  have hτ : τ.val < 32 := τ.isLt
  unfold attStep k1_pay1
  pointwise
  rw [WordCmp.cmpi_sle_ofNat (by omega) (by omega), WordCmp.cmpi_sgt_ofNat (by omega) (by omega)]
  show cnt (ix2 t τ) + Scalar.select (IntOp.andi (BitVec.ofBool (decide (j ≤ t.val))) (IntOp.ori (BitVec.ofBool (decide (S (ix2 t τ) < S (ix2 t ⟨j, _⟩))))
    (IntOp.andi (BitVec.ofBool (decide (S (ix2 t ⟨j, _⟩) = S (ix2 t τ)))) (BitVec.ofBool (decide (j < τ.val)))))) 1#32 0#32 = _
  have e : IntOp.andi (BitVec.ofBool (decide (j ≤ t.val))) (IntOp.ori (BitVec.ofBool (decide (S (ix2 t τ) < S (ix2 t ⟨j, hj⟩))))
    (IntOp.andi (BitVec.ofBool (decide (S (ix2 t ⟨j, hj⟩) = S (ix2 t τ)))) (BitVec.ofBool (decide (j < τ.val))))) = BitVec.ofBool (decide (beats S t τ j)) := by
    have hb : beats S t τ j ↔ (j ≤ t.val ∧ (S (ix2 t τ) < S (ix2 t ⟨j, hj⟩) ∨ (S (ix2 t ⟨j, hj⟩) = S (ix2 t τ) ∧ j < τ.val))) := by
      unfold beats
      exact and_congr_right fun _ => ⟨fun ⟨_, h⟩ => h, fun h => ⟨hj, h⟩⟩
    rw [decide_eq_decide.mpr hb, Bool.decide_and, Bool.decide_or, Bool.decide_and]
    generalize decide (j ≤ t.val) = a
    generalize decide (S (ix2 t τ) < S (ix2 t ⟨j, hj⟩)) = b
    generalize decide (S (ix2 t ⟨j, hj⟩) = S (ix2 t τ)) = c
    generalize decide (j < τ.val) = d
    revert a b c d
    decide
  rw [e, select_ofBool]

/-- The ranks, read. -/
theorem attRank_apply (S : FVec Ideal S31x32 .f32) (t : Fin 31) (τ : Fin 32) (n : ℕ) (hn : n ≤ 32) :
    attRank S n hn (ix2 t τ) = BitVec.ofNat 32 (Nat.count (beats S t τ) n) := by
  induction n with
  | zero => rfl
  | succ n ih =>
    rw [attRank, attStep_apply, ih (by omega), Nat.count_succ]
    split
    · rw [BitVec.ofNat_add]
    · rw [add_zero]; simp

/-- The kept entries, read. -/
theorem attKeep_apply (S : FVec Ideal S31x32 .f32) (t : Fin 31) (τ : Fin 32) :
    attKeep S (ix2 t τ) = BitVec.ofBool (decide (τ.val ≤ t.val ∧ Nat.count (beats S t τ) 32 < 10)) := by
  have ht : t.val < 31 := t.isLt
  have hτ : τ.val < 32 := τ.isLt
  have hc : Nat.count (beats S t τ) 32 ≤ 32 := Nat.count_le _
  unfold attKeep k1_pay1
  pointwise
  rw [attRank_apply, WordCmp.cmpi_sle_ofNat (by omega) (by omega), WordCmp.cmpi_slt_ofNat (by omega) (by omega), Bool.decide_and]
  generalize decide (τ.val ≤ t.val) = a
  generalize decide (Nat.count (beats S t τ) 32 < 10) = b
  revert a b
  decide

/-- The columns that beat a valid one are the steps before it in the sort. -/
theorem count_beats (S : FVec Ideal S31x32 .f32) (t : Fin 31) (x : Fin 32 → ℝ) (hS : ∀ τ, S (ix2 t τ) = (x τ : EReal)) (τ : Fin 31) (hτ : τ ≤ t) :
    Nat.count (beats S t τ.castSucc) 32 = rk (vm (fun τ => x τ.castSucc) t) τ := by
  rw [Nat.count_eq_card_filter_range]
  unfold rk
  rw [← Finset.card_map Fin.valEmbedding]
  refine congrArg _ (Finset.ext fun j => ?_)
  have eτ : vm (fun τ => x τ.castSucc) t τ = (x τ.castSucc : EReal) := if_pos hτ
  rw [Finset.mem_filter, Finset.mem_range, Finset.mem_map]
  constructor
  · rintro ⟨_, hjt, hj, h⟩
    have hj' : j < 31 := by omega
    have ej : vm (fun τ => x τ.castSucc) t ⟨j, hj'⟩ = (x ⟨j, hj⟩ : EReal) := if_pos hjt
    refine ⟨⟨j, hj'⟩, Finset.mem_filter.mpr ⟨Finset.mem_univ _, ?_⟩, rfl⟩
    rw [eτ, ej]
    rw [hS, hS] at h
    exact h
  · rintro ⟨i, hi, rfl⟩
    have h := (Finset.mem_filter.mp hi).2
    have hit : i ≤ t := by
      by_contra hn
      have ei : vm (fun τ => x τ.castSucc) t i = ⊥ := if_neg hn
      rw [eτ, ei] at h
      rcases h with h | ⟨h, _⟩
      · exact absurd h not_lt_bot
      · exact absurd h (EReal.bot_ne_coe _)
    have ei : vm (fun τ => x τ.castSucc) t i = (x i.castSucc : EReal) := if_pos hit
    rw [eτ, ei] at h
    refine ⟨by have := i.isLt; show i.val < 32; omega, hit, by have := i.isLt; show i.val < 32; omega, ?_⟩
    rw [hS, hS]
    exact h

/-- The weights, read: the softmax's weights of the kept entries. -/
theorem attW_apply (S : FVec Ideal S31x32 .f32) (t : Fin 31) (x : Fin 32 → ℝ) (hS : ∀ τ, S (ix2 t τ) = (x τ : EReal)) (τ : Fin 31) :
    attW S (ix2 t τ.castSucc) = ((wt (Kp (fun τ => x τ.castSucc) t) (fun τ => x τ.castSucc) τ : ℝ) : EReal) := by
  have hK : ∀ τ : Fin 31, (τ.castSucc.val ≤ t.val ∧ Nat.count (beats S t τ.castSucc) 32 < 10) ↔ Kp (fun τ => x τ.castSucc) t τ := fun τ =>
    and_congr_right fun h => by rw [count_beats S t x hS τ h]
  obtain ⟨c, hc⟩ : ∃ c : ℝ, Ideal.ofBits FTy.f32 4284592614#32 = (c : EReal) := ⟨_, by simp [Ideal.ofBits, Ideal.ieee, -EReal.coe_mul]; rfl⟩
  obtain ⟨μ, hμ⟩ := fold_max_coe (n := 32) (by decide) (fun k => if (k.val ≤ t.val ∧ Nat.count (beats S t k) 32 < 10) then x k else c)
  have hbot : Ideal.ofBits FTy.f32 4286578688#32 = ⊥ := by simp [Ideal.ofBits, Ideal.ieee]
  have hex : ∀ k, attExp S (ix2 t k) = if (k.val ≤ t.val ∧ Nat.count (beats S t k) 32 < 10) then Ideal.exp ((x k : EReal) - (μ : EReal)) else 0 := by
    intro k
    unfold attExp
    pointwise
    simp only [attKeep_apply, select_ofBool, hS, hc, hbot]
    rw [← hμ]
    have ef : ∀ k : Fin 32, (((if (k.val ≤ t.val ∧ Nat.count (beats S t k) 32 < 10) then x k else c : ℝ)) : EReal)
        = if (k.val ≤ t.val ∧ Nat.count (beats S t k) 32 < 10) then (x k : EReal) else (c : EReal) := fun k => by split <;> rfl
    simp only [ef]
  unfold attW
  pointwise
  simp only [hex]
  rw [Fin.sum_univ_castSucc, if_neg (c := ((Fin.last 31).val ≤ t.val ∧ _)) (by have := t.isLt; simp [Fin.last]), add_zero]
  simp only [hK]
  exact div_keep _ _ μ (Kp_ne _ t) τ

/-- A row, read. -/
theorem attRow_apply (w : FVec Ideal S1x256 .f32) (e e2 : FVec Ideal S32x1x256 .f32) (h : FVec Ideal S1x31 .f32) (t : Fin 31)
    (x : Fin 32 → ℝ) (hS : ∀ τ : Fin 32, (∑ d : Fin 256, e (ix3 ⟨1 + t.val, by omega⟩ 0 d) * e (ix3 τ 0 d)) = (x τ : EReal)) :
    attRow (F := Ideal) w e e2 h (ix2 0 t) = Ideal.logistic (h (ix2 0 t)
      + ∑ τ : Fin 31, h (ix2 0 τ) * ((wt (Kp (fun τ => x τ.castSucc) t) (fun τ => x τ.castSucc) τ : ℝ) : EReal)
      + ∑ d : Fin 256, w (ix2 0 d) * (e (ix3 ⟨1 + t.val, by omega⟩ 0 d) + e2 (ix3 ⟨1 + t.val, by omega⟩ 0 d))) := by
  have hW : ∀ τ : Fin 31, attW (F := Ideal) (attS (F := Ideal) e) (ix2 t ⟨τ.val, by omega⟩) = ((wt (Kp (fun τ => x τ.castSucc) t) (fun τ => x τ.castSucc) τ : ℝ) : EReal) :=
    fun τ => attW_apply _ t x (fun τ => (attS_apply e t τ).trans (hS τ)) τ
  unfold attRow
  pointwise
  simp only [hW, zero_mul, Finset.sum_const_zero, add_zero]

end Cert.KernelIdeal.Gen
-- ==== Proof.Ideal.OutIdx.lean ====
module

public import proofs.«01_k».proof.Proof.Ideal.RowIdx

@[expose] public section

set_option maxRecDepth 16384

noncomputable section

namespace Cert.KernelIdeal.Gen

open Idealize.ShloMosaic Idealize.ShloMosaic.TcCoe Idealize.ShloMosaic.Tactic
open Cert.Recap

/-! # The kernel's result at an index -/

/-- The embeddings by steps and rows, read. -/
theorem cast3_apply (v : FVec Ideal S4096x256 .f32) (b : Fin 128) (t : Fin 32) (d : Fin 256) :
    shapeCast S32x128x256 v shapeCasts_S4096x256_S32x128x256 (ix3 t b d) = v (ix2 (fl b t) d) :=
  Idealize.ShloMosaic.shapeCast_apply _ _ _ _ (by rw [Shape.rowMajor_val_two, Shape.rowMajor_val_three]; rfl)

/-- The state scores by rows and steps, read. -/
theorem castHw_apply (v : FVec Ideal S3968x1 .f32) (b : Fin 128) (t : Fin 31) :
    transpose S128x31 [1, 0] (shapeCast S31x128 v shapeCasts_S3968x1_S31x128) transposes_S31x128_S128x31_1_0 (ix2 b t)
      = v (ix2 ⟨t.val * 128 + b.val, by omega⟩ 0) := by
  pointwise

/-- The first column of the result. -/
theorem attAll_first (E E2 : FVec Ideal S32x128x256 .f32) (H : FVec Ideal S128x31 .f32) (w : FVec Ideal S1x256 .f32) (b : Fin 128) :
    attAll (F := Ideal) E E2 H w (ix2 b 0) = Ideal.ofBits FTy.f32 0x3F000000#32 := rfl

/-- The other columns of the result. -/
theorem attAll_next (E E2 : FVec Ideal S32x128x256 .f32) (H : FVec Ideal S128x31 .f32) (w : FVec Ideal S1x256 .f32) (b : Fin 128) (t : Fin 31)
    (x : Fin 32 → ℝ) (hx : ∀ τ : Fin 32, (∑ d : Fin 256, E (ix3 ⟨1 + t.val, by omega⟩ b d) * E (ix3 τ b d)) = (x τ : EReal)) :
    attAll (F := Ideal) E E2 H w (ix2 b ⟨1 + t.val, by omega⟩) = Ideal.logistic (H (ix2 b t)
      + ∑ τ : Fin 31, H (ix2 b τ) * ((wt (Kp (fun τ => x τ.castSucc) t) (fun τ => x τ.castSucc) τ : ℝ) : EReal)
      + ∑ d : Fin 256, w (ix2 0 d) * (E (ix3 ⟨1 + t.val, by omega⟩ b d) + E2 (ix3 ⟨1 + t.val, by omega⟩ b d))) := by
  have e := attRow_apply w (fun x => E (ix3 (x 0) b (x 2))) (fun x => E2 (ix3 (x 0) b (x 2))) (fun x => H (ix2 b (x 1))) t x hx
  refine Eq.trans ?_ e
  unfold attAll
  rw [dif_neg (by show ¬ 1 + t.val = 0; omega)]
  have et : (⟨1 + t.val - 1, by omega⟩ : Fin 31) = t := Fin.ext (by show 1 + t.val - 1 = t.val; omega)
  exact congrArg (fun k : Fin 31 => attRow (F := Ideal) w (fun x => E (ix3 (x 0) b (x 2))) (fun x => E2 (ix3 (x 0) b (x 2))) (fun x => H (ix2 b (x 1))) (ix2 0 k)) et

/-- A step's score against another. -/
def sc (q : Fin 32 → Fin 256 → ℝ) (t : Fin 31) (τ : Fin 32) : ℝ := ∑ d : Fin 256, q ⟨1 + t.val, by omega⟩ d * q τ d

/-- The columns after the first, from the state scores. -/
theorem out_next (a0 : IVec S128x32 32) (a8 a11 : FVec Ideal S10000x256 .f32) (a15 : FVec Ideal S512 .f32) (v : FVec Ideal S3968x1 .f32)
    (b : Fin 128) (q : Fin 32 → Fin 256 → ℝ) (hq : ∀ t d, sEq a0 a8 b t d = (q t d : EReal))
    (HW : Fin 31 → EReal) (hv : ∀ t : Fin 31, v (ix2 ⟨t.val * 128 + b.val, by omega⟩ 0) = HW t) (t : Fin 31) :
    attAll (F := Ideal) (shapeCast S32x128x256 (kEq a0 a8) shapeCasts_S4096x256_S32x128x256) (shapeCast S32x128x256 (kEq a0 a11) shapeCasts_S4096x256_S32x128x256)
      (transpose S128x31 [1, 0] (shapeCast S31x128 v shapeCasts_S3968x1_S31x128) transposes_S31x128_S128x31_1_0) (kw2 a15)
      (ix2 b ⟨1 + t.val, by omega⟩) = Ideal.logistic (HW t
      + ∑ τ : Fin 31, HW τ * ((wt (Kp (fun τ => sc q t τ.castSucc) t) (fun τ => sc q t τ.castSucc) τ : ℝ) : EReal)
      + ∑ d : Fin 256, a15 (ix1 ⟨256 + d.val, by omega⟩) * (sEq a0 a8 b ⟨1 + t.val, by omega⟩ d + sEq a0 a11 b ⟨1 + t.val, by omega⟩ d)) := by
  have hx : ∀ τ : Fin 32, (∑ d : Fin 256, shapeCast S32x128x256 (kEq a0 a8) shapeCasts_S4096x256_S32x128x256 (ix3 ⟨1 + t.val, by omega⟩ b d)
      * shapeCast S32x128x256 (kEq a0 a8) shapeCasts_S4096x256_S32x128x256 (ix3 τ b d)) = ((sc q t τ : ℝ) : EReal) := fun τ => by
    unfold sc
    rw [coe_sum]
    refine Finset.sum_congr rfl fun d _ => ?_
    rw [cast3_apply, cast3_apply, kEq_apply, kEq_apply, hq, hq, EReal.coe_mul]
  have hw2 : ∀ d : Fin 256, kw2 a15 (ix2 0 d) = a15 (ix1 ⟨256 + d.val, by omega⟩) := fun d => by
    unfold kw2
    pointwise
  have key : ∀ H : FVec Ideal S128x31 .f32, (∀ t : Fin 31, H (ix2 b t) = HW t) → attAll (F := Ideal) (shapeCast S32x128x256 (kEq a0 a8) shapeCasts_S4096x256_S32x128x256)
      (shapeCast S32x128x256 (kEq a0 a11) shapeCasts_S4096x256_S32x128x256) H (kw2 a15) (ix2 b ⟨1 + t.val, by omega⟩) = Ideal.logistic (HW t
      + ∑ τ : Fin 31, HW τ * ((wt (Kp (fun τ => sc q t τ.castSucc) t) (fun τ => sc q t τ.castSucc) τ : ℝ) : EReal)
      + ∑ d : Fin 256, a15 (ix1 ⟨256 + d.val, by omega⟩) * (sEq a0 a8 b ⟨1 + t.val, by omega⟩ d + sEq a0 a11 b ⟨1 + t.val, by omega⟩ d)) := fun H hH => by
    rw [attAll_next _ _ _ _ b t (sc q t) hx]
    simp only [hH, hw2, cast3_apply, kEq_apply]
  exact key _ fun t => (castHw_apply v b t).trans (hv t)

/-- The columns of the kernel's result after the first, over the arguments. -/
theorem kOut_next (a0 a1 a2 a3 : IVec S128x32 32) (a4 : IVec S10000x8 32) (a5 : IVec S512x4 32) (a6 : IVec S10000x8 32) (a7 : IVec S4096x4 32)
    (a8 : FVec Ideal S10000x256 .f32) (a9 : FVec Ideal S512x256 .f32) (a10 : FVec Ideal S4096x256 .f32) (a11 : FVec Ideal S10000x256 .f32)
    (a12 : FVec Ideal S2x256 .f32) (a13 : FVec Ideal S768x256 .f32) (a14 : FVec Ideal S256x256 .f32) (a15 : FVec Ideal S512 .f32)
    (hb : ∀ i, a1 i = 0#32 ∨ a1 i = 1#32) (h12 : ∀ i, ∃ r : ℝ, a12 i = (r : EReal))
    (h13 : ∀ (k : Fin 256) (d : Fin 256), ∃ r : ℝ, a13 (ix2 ⟨512 + k.val, by omega⟩ d) = (r : EReal))
    (b : Fin 128) (q : Fin 32 → Fin 256 → ℝ) (hq : ∀ t d, sEq a0 a8 b t d = (q t d : EReal))
    (HW : Fin 31 → EReal) (hHW : ∀ t : Fin 31, HW t = ∑ d : Fin 256, sSt (sX (sX1 a0 a2 a3 a4 a5 a8 a9 a10) (sX2 a0 a6 a7 a10 a11) a1 a12 a13) a14 (t.val + 1) b d * a15 (ix1 ⟨d.val, by omega⟩))
    (t : Fin 31) :
    kOut (F := Ideal) a0 a1 a2 a3 a4 a5 a6 a7 a8 a9 a10 a11 a12 a13 a14 a15 (ix2 b ⟨1 + t.val, by omega⟩) = Ideal.logistic (HW t
      + ∑ τ : Fin 31, HW τ * ((wt (Kp (fun τ => sc q t τ.castSucc) t) (fun τ => sc q t τ.castSucc) τ : ℝ) : EReal)
      + ∑ d : Fin 256, a15 (ix1 ⟨256 + d.val, by omega⟩) * (sEq a0 a8 b ⟨1 + t.val, by omega⟩ d + sEq a0 a11 b ⟨1 + t.val, by omega⟩ d)) := by
  refine out_next a0 a8 a11 a15 _ b q hq HW (fun t => ?_) t
  rw [hHW, kHw_apply a0 a1 a2 a3 a4 a5 a6 a7 a8 a9 a10 a11 a12 a13 a14 a15 hb h12 h13]

end Cert.KernelIdeal.Gen
-- ==== Proof.Equal.lean ====
module

public import proofs.«01_k».proof.Proof.Ref.OutIdx
public import proofs.«01_k».proof.Proof.Ideal.OutIdx

@[expose] public section

set_option maxRecDepth 16384

noncomputable section

namespace Cert.Recap

open Idealize.ShloMosaic Idealize.ShloMosaic.TcCoe
open Cert.KernelIdeal.Gen (kOut sc kOut_next attAll_first ix2_of)
open Cert.ReferenceIdeal.Value (Vals rOut rOut_next outArr_first rSt rX)
open Cert.ReferenceIdeal

/-! # The two results are equal -/

/-- A squashed value is a real. -/
theorem tanh_real (x : EReal) : ∃ r : ℝ, Ideal.tanh x = (r : EReal) := by
  induction x with
  | bot => exact ⟨-1, rfl⟩
  | coe r => exact ⟨Real.tanh r, rfl⟩
  | top => exact ⟨1, rfl⟩

/-- A state after a step is a real. -/
theorem state_real (X : Fin 128 → Fin 32 → Fin 256 → EReal) (wh : Mat 256 256) (n : ℕ) (hn : n < 32) (b : Fin 128) (d : Fin 256) :
    ∃ r : ℝ, sSt X wh (n + 1) b d = (r : EReal) := by
  rw [sSt]
  beta_reduce
  rw [dif_pos hn]
  exact tanh_real _

/-- Where the responses are bits and the embeddings and weights named are finite, the kernel's result is the reference's. -/
theorem out_eq (V : Vals) (hb : ∀ i, (show IMat 128 32 from V (Proc.devRef .tc main_arg1)) i = 0#32 ∨ (show IMat 128 32 from V (Proc.devRef .tc main_arg1)) i = 1#32)
    (h8 : ∀ i, ∃ r : ℝ, (show Mat 10000 256 from V (Proc.devRef .tc main_arg8)) i = (r : EReal))
    (h12 : ∀ i, ∃ r : ℝ, (show Mat 2 256 from V (Proc.devRef .tc main_arg12)) i = (r : EReal))
    (h13 : ∀ (k : Fin 256) (d : Fin 256), ∃ r : ℝ, (show Mat 768 256 from V (Proc.devRef .tc main_arg13)) (ix2 ⟨512 + k.val, by omega⟩ d) = (r : EReal))
    (h15 : ∀ d : Fin 256, ∃ r : ℝ, (show FVec Ideal S512 .f32 from V (Proc.devRef .tc main_arg15)) (ix1 ⟨d.val, by omega⟩) = (r : EReal)) :
    kOut (F := Ideal) (V (Proc.devRef .tc main_arg0)) (V (Proc.devRef .tc main_arg1)) (V (Proc.devRef .tc main_arg2)) (V (Proc.devRef .tc main_arg3))
      (V (Proc.devRef .tc main_arg4)) (V (Proc.devRef .tc main_arg5)) (V (Proc.devRef .tc main_arg6)) (V (Proc.devRef .tc main_arg7))
      (V (Proc.devRef .tc main_arg8)) (V (Proc.devRef .tc main_arg9)) (V (Proc.devRef .tc main_arg10)) (V (Proc.devRef .tc main_arg11))
      (V (Proc.devRef .tc main_arg12)) (V (Proc.devRef .tc main_arg13)) (V (Proc.devRef .tc main_arg14)) (V (Proc.devRef .tc main_arg15)) = rOut V := by
  funext i
  obtain ⟨b, s, rfl⟩ : ∃ (b : Fin 128) (s : Fin 32), i = ix2 b s := ⟨i 0, i 1, ix2_of _ _ _ rfl rfl⟩
  by_cases hs : s.val = 0
  · obtain rfl : s = 0 := Fin.ext hs
    exact (attAll_first _ _ _ _ b).trans (outArr_first _ _ _ b).symm
  · obtain ⟨t, rfl⟩ : ∃ t : Fin 31, s = ⟨1 + t.val, by omega⟩ := ⟨⟨s.val - 1, by omega⟩, Fin.ext (by show s.val = 1 + (s.val - 1); omega)⟩
    choose A hA using h8
    choose w hw using h15
    choose h hh using fun t : Fin 31 => state_real (rX V) (V (Proc.devRef .tc main_arg14)) t.val (by omega) b
    let q : Fin 32 → Fin 256 → ℝ := fun t d => A (ix2 (rowW 10000 (by decide) 10000#32 ((show IMat 128 32 from V (Proc.devRef .tc main_arg0)) (ix2 b t))) d)
    have hq : ∀ t d, sEq (V (Proc.devRef .tc main_arg0)) (V (Proc.devRef .tc main_arg8)) b t d = (q t d : EReal) := fun t d => hA _
    have hx : ∀ τ : Fin 31, (∑ d : Fin 256, (sEq (V (Proc.devRef .tc main_arg0)) (V (Proc.devRef .tc main_arg8)) b ⟨1 + t.val, by omega⟩ d) *
        (sEq (V (Proc.devRef .tc main_arg0)) (V (Proc.devRef .tc main_arg8)) b τ.castSucc d)) = (sc q t τ.castSucc : EReal) := by
      intro τ
      simp only [hq, ← EReal.coe_mul, ← coe_sum]
      rfl
    refine (kOut_next _ _ _ _ _ _ _ _ _ _ _ _ _ _ _ _ hb h12 h13 b q hq _ (fun _ => rfl) t).trans
      (Eq.trans (congrArg Ideal.logistic (congrArg₂ (· + ·) ?_ (Finset.sum_congr rfl fun d _ => mul_comm _ _))) (rOut_next V b t _ hx _ rfl).symm)
    have e : ∀ (t : Fin 31) (d : Fin 256), rSt V (t.val + 1) b d = (h t d : EReal) := fun t d => hh t d
    have hr := recap_eq h w (fun τ => wt (Kp (fun τ => sc q t τ.castSucc) t) (fun τ => sc q t τ.castSucc) τ) t
    have es : ∀ τ : Fin 31, (∑ d : Fin 256, rSt V (τ.val + 1) b d * (show FVec Ideal S512 .f32 from V (Proc.devRef .tc main_arg15)) (ix1 ⟨d.val, by omega⟩)) = ∑ d : Fin 256, (h τ d : EReal) * (w d : EReal) :=
      fun τ => Finset.sum_congr rfl fun d _ => congrArg₂ (· * ·) (e τ d) (hw d)
    refine (congrArg₂ (· + ·) (es t) (Finset.sum_congr rfl fun τ _ => congrArg (· * _) (es τ))).trans (hr.trans ?_)
    exact Finset.sum_congr rfl fun d _ => congrArg₂ (· * ·)
      (congrArg₂ (· + ·) (e t d).symm (Finset.sum_congr rfl fun τ _ => congrArg (_ * ·) (e τ d).symm)) (hw d).symm

end Cert.Recap
-- ==== Proof.Pre.lean ====
module

public import proofs.«01_k».proof.Defs
public import proofs.«01_k».proof.Proof.Math.Spec

@[expose] public section

set_option maxRecDepth 16384

noncomputable section

namespace Cert.Recap

open Idealize.ShloMosaic Idealize.ShloMosaic.TcCoe
open Cert.Pre_finite_and_binary Cert.Pre_finite_and_binary.Facts

/-! # What the precondition says of the arguments -/

/-- The shape conditions the precondition states. -/
theorem pre_facts : Cert.Pre_finite_and_binary.Facts where
  bcast_S_S128x32 := by decide
  bcast_S_S10000x256 := by decide
  bcast_S_S2x256 := by decide
  slices_S768x256_S256x256_512_0 := by decide
  bcast_S_S256x256 := by decide
  slices_S512_S256_0 := by decide
  bcast_S_S256 := by decide

/-- A value whose size is below infinity is a real. -/
theorem real_of_lt (x : EReal) (h : FloatOps.cmpf (F := Ideal) (φ := .f32) .olt (FloatOps.absf (F := Ideal) (φ := .f32) x) (Ideal.ofBits .f32 0x7F800000#32) = 1#1) :
    ∃ r : ℝ, x = (r : EReal) := by
  have hinf : Ideal.ofBits .f32 0x7F800000#32 = ⊤ := by simp [Ideal.ofBits, Ideal.ieee]
  rw [hinf] at h
  have hlt : max x (-x) < ⊤ := by
    by_contra hn
    have h' : BitVec.ofBool (decide (max x (-x) < ⊤)) = 1#1 := h
    rw [decide_eq_false hn] at h'
    exact absurd h' (by decide)
  have h1 := (max_lt_iff.mp hlt).1
  have h2 := (max_lt_iff.mp hlt).2
  induction x with
  | bot => exact absurd h2 (by simp)
  | coe r => exact ⟨r, rfl⟩
  | top => exact absurd h1 (by simp)

/-- A word that equals zero or one. -/
theorem bit_of_eq (x : BitVec 32) (h : BitVec.ofBool (x == 0#32) ||| BitVec.ofBool (x == 1#32) = 1#1) : x = 0#32 ∨ x = 1#32 := by
  by_cases h0 : x = 0#32
  · exact .inl h0
  · by_cases h1 : x = 1#32
    · exact .inr h1
    · rw [show (x == 0#32) = false from by simp [h0], show (x == 1#32) = false from by simp [h1]] at h
      exact absurd h (by decide)

section
variable [Cert.Pre_finite_and_binary.Facts]
variable (a0 a1 a2 a3 : IVec S128x32 32) (a4 : IVec S10000x8 32) (a5 : IVec S512x4 32) (a6 : IVec S10000x8 32) (a7 : IVec S4096x4 32)
    (a8 : FVec Ideal S10000x256 .f32) (a9 : FVec Ideal S512x256 .f32) (a10 : FVec Ideal S4096x256 .f32) (a11 : FVec Ideal S10000x256 .f32)
    (a12 : FVec Ideal S2x256 .f32) (a13 : FVec Ideal S768x256 .f32) (a14 : FVec Ideal S256x256 .f32) (a15 : FVec Ideal S512 .f32)

/-- The responses are bits. -/
theorem pre_bits (h : (fn (F := Ideal) a0 a1 a2 a3 a4 a5 a6 a7 a8 a9 a10 a11 a12 a13 a14 a15).1 = fun _ => 1#1) : ∀ i, a1 i = 0#32 ∨ a1 i = 1#32 :=
  fun i => bit_of_eq _ (congrFun h i)

/-- The question embeddings are finite. -/
theorem pre_emb (h : (fn (F := Ideal) a0 a1 a2 a3 a4 a5 a6 a7 a8 a9 a10 a11 a12 a13 a14 a15).2.1 = fun _ => 1#1) : ∀ i, ∃ r : ℝ, a8 i = (r : EReal) :=
  fun i => real_of_lt _ (congrFun h i)

/-- The response embeddings are finite. -/
theorem pre_resp (h : (fn (F := Ideal) a0 a1 a2 a3 a4 a5 a6 a7 a8 a9 a10 a11 a12 a13 a14 a15).2.2.1 = fun _ => 1#1) : ∀ i, ∃ r : ℝ, a12 i = (r : EReal) :=
  fun i => real_of_lt _ (congrFun h i)

/-- The last third of the input weights is finite. -/
theorem pre_third (h : (fn (F := Ideal) a0 a1 a2 a3 a4 a5 a6 a7 a8 a9 a10 a11 a12 a13 a14 a15).2.2.2.1 = fun _ => 1#1) (k d : Fin 256) :
    ∃ r : ℝ, a13 (ix2 ⟨512 + k.val, by omega⟩ d) = (r : EReal) := by
  obtain ⟨r, hr⟩ := real_of_lt _ (congrFun h (ix2 k d))
  refine ⟨r, Eq.trans (congrArg a13 ?_) hr⟩
  funext j
  match j with
  | ⟨0, _⟩ => rfl
  | ⟨1, _⟩ => exact Fin.ext (Nat.zero_add _).symm

/-- The first half of the prediction weights is finite. -/
theorem pre_half (h : (fn (F := Ideal) a0 a1 a2 a3 a4 a5 a6 a7 a8 a9 a10 a11 a12 a13 a14 a15).2.2.2.2 = fun _ => 1#1) (d : Fin 256) :
    ∃ r : ℝ, a15 (ix1 ⟨d.val, by omega⟩) = (r : EReal) := by
  obtain ⟨r, hr⟩ := real_of_lt _ (congrFun h (ix1 d))
  refine ⟨r, Eq.trans (congrArg a15 ?_) hr⟩
  funext j
  match j with
  | ⟨0, _⟩ => exact Fin.ext (Nat.zero_add _).symm

end

end Cert.Recap
-- ==== Proof.lean ====
/- The kernel makes two calls from host code, the recurrence and the attention; the reference is plain host code.
   The arguments of both end unchanged with every counter at zero, and the two results are equal where the responses are
   bits and the embeddings and weights that the reference multiplies and the kernel reorders are finite. -/
module

public import proofs.«01_k».proof.Defs
public import proofs.«01_k».proof.Proof.Bits.Run
public import proofs.«01_k».proof.Proof.Ideal.Run
public import proofs.«01_k».proof.Proof.Ideal.HostVal
public import proofs.«01_k».proof.Proof.Gen.ReferenceIdeal.Run
public import proofs.«01_k».proof.Proof.Equal
public import proofs.«01_k».proof.Proof.Pre
public import Idealize.ShloMosaic.Lib.Claim
public import Idealize.ShloMosaic.Lib.Quiescent

@[expose] public section

set_option maxRecDepth 16384

noncomputable section

namespace Cert.Proof

open Idealize.ShloMosaic Idealize.ShloMosaic.TcCoe Idealize.SL.Sem
open Idealize.ShloMosaic.StableHlo (launchContents)

/-- The kernel as written leaves its arguments unchanged and its counters at zero. -/
theorem frame_kernel : Cert.quiescent_Kernel := fun m ρ _ =>
  (θ_run Cert.Kernel.defs _ _).mono (fun r h => ⟨fun c => (h.1 c).2, h.2⟩) (Cert.Kernel.Gen.runAll m ρ)

/-- The kernel over exact numbers leaves its arguments unchanged and its counters at zero. -/
theorem frame_ideal : Cert.quiescent_KernelIdeal := fun m ρ _ =>
  (θ_run Cert.KernelIdeal.defs _ _).mono (fun r h => ⟨fun c => (h.1 c).2, h.2⟩) (Cert.KernelIdeal.Gen.runAll m ρ)

/-- The reference leaves its arguments unchanged and its counters at zero. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

section
variable [Cert.Pre_finite_and_binary.Facts]

/-- The kernel's result, where its arguments satisfy the precondition, is the reference's over launch contents that agree. -/
theorem value_eq (m : (ℓ : Loc Cert.KernelIdeal.nD Cert.KernelIdeal.τ Cert.KernelIdeal.sig) → Buf (Elt Ideal) ℓ)
    (hpre : Cert.Pre_KernelIdeal_finite_and_binary m) (c : Dev Cert.KernelIdeal.nD) (V : Cert.ReferenceIdeal.Value.Vals)
    (h0 : V (Proc.devRef .tc Cert.ReferenceIdeal.main_arg0) = m ((c.tc : Thread Cert.KernelIdeal.nD Cert.KernelIdeal.τ).loc Cert.KernelIdeal.main_arg0))
    (h1 : V (Proc.devRef .tc Cert.ReferenceIdeal.main_arg1) = m ((c.tc : Thread Cert.KernelIdeal.nD Cert.KernelIdeal.τ).loc Cert.KernelIdeal.main_arg1))
    (h2 : V (Proc.devRef .tc Cert.ReferenceIdeal.main_arg2) = m ((c.tc : Thread Cert.KernelIdeal.nD Cert.KernelIdeal.τ).loc Cert.KernelIdeal.main_arg2))
    (h3 : V (Proc.devRef .tc Cert.ReferenceIdeal.main_arg3) = m ((c.tc : Thread Cert.KernelIdeal.nD Cert.KernelIdeal.τ).loc Cert.KernelIdeal.main_arg3))
    (h4 : V (Proc.devRef .tc Cert.ReferenceIdeal.main_arg4) = m ((c.tc : Thread Cert.KernelIdeal.nD Cert.KernelIdeal.τ).loc Cert.KernelIdeal.main_arg4))
    (h5 : V (Proc.devRef .tc Cert.ReferenceIdeal.main_arg5) = m ((c.tc : Thread Cert.KernelIdeal.nD Cert.KernelIdeal.τ).loc Cert.KernelIdeal.main_arg5))
    (h6 : V (Proc.devRef .tc Cert.ReferenceIdeal.main_arg6) = m ((c.tc : Thread Cert.KernelIdeal.nD Cert.KernelIdeal.τ).loc Cert.KernelIdeal.main_arg6))
    (h7 : V (Proc.devRef .tc Cert.ReferenceIdeal.main_arg7) = m ((c.tc : Thread Cert.KernelIdeal.nD Cert.KernelIdeal.τ).loc Cert.KernelIdeal.main_arg7))
    (h8 : V (Proc.devRef .tc Cert.ReferenceIdeal.main_arg8) = m ((c.tc : Thread Cert.KernelIdeal.nD Cert.KernelIdeal.τ).loc Cert.KernelIdeal.main_arg8))
    (h9 : V (Proc.devRef .tc Cert.ReferenceIdeal.main_arg9) = m ((c.tc : Thread Cert.KernelIdeal.nD Cert.KernelIdeal.τ).loc Cert.KernelIdeal.main_arg9))
    (h10 : V (Proc.devRef .tc Cert.ReferenceIdeal.main_arg10) = m ((c.tc : Thread Cert.KernelIdeal.nD Cert.KernelIdeal.τ).loc Cert.KernelIdeal.main_arg10))
    (h11 : V (Proc.devRef .tc Cert.ReferenceIdeal.main_arg11) = m ((c.tc : Thread Cert.KernelIdeal.nD Cert.KernelIdeal.τ).loc Cert.KernelIdeal.main_arg11))
    (h12 : V (Proc.devRef .tc Cert.ReferenceIdeal.main_arg12) = m ((c.tc : Thread Cert.KernelIdeal.nD Cert.KernelIdeal.τ).loc Cert.KernelIdeal.main_arg12))
    (h13 : V (Proc.devRef .tc Cert.ReferenceIdeal.main_arg13) = m ((c.tc : Thread Cert.KernelIdeal.nD Cert.KernelIdeal.τ).loc Cert.KernelIdeal.main_arg13))
    (h14 : V (Proc.devRef .tc Cert.ReferenceIdeal.main_arg14) = m ((c.tc : Thread Cert.KernelIdeal.nD Cert.KernelIdeal.τ).loc Cert.KernelIdeal.main_arg14))
    (h15 : V (Proc.devRef .tc Cert.ReferenceIdeal.main_arg15) = m ((c.tc : Thread Cert.KernelIdeal.nD Cert.KernelIdeal.τ).loc Cert.KernelIdeal.main_arg15)) :
    Cert.KernelIdeal.Gen.kOut (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14))
      (m ((c.tc : Thread Cert.KernelIdeal.nD Cert.KernelIdeal.τ).loc Cert.KernelIdeal.main_arg15)) = Cert.ReferenceIdeal.Value.rOut V := by
  obtain ⟨p1, p8, p12, p13, p15⟩ := hpre c
  have q1 := Cert.Recap.pre_bits _ _ _ _ _ _ _ _ _ _ _ _ _ _ _ _ p1
  have q8 := Cert.Recap.pre_emb _ _ _ _ _ _ _ _ _ _ _ _ _ _ _ _ p8
  have q12 := Cert.Recap.pre_resp _ _ _ _ _ _ _ _ _ _ _ _ _ _ _ _ p12
  have q13 := Cert.Recap.pre_third _ _ _ _ _ _ _ _ _ _ _ _ _ _ _ _ p13
  have q15 := Cert.Recap.pre_half _ _ _ _ _ _ _ _ _ _ _ _ _ _ _ _ p15
  rw [← h0, ← h1, ← h2, ← h3, ← h4, ← h5, ← h6, ← h7, ← h8, ← h9, ← h10, ← h11, ← h12, ← h13, ← h14, ← h15] at *
  exact Cert.Recap.out_eq V q1 q8 q12 q13 q15

/-- The two programs over exact numbers end with equal results. -/
theorem values : Cert.algebraic_KernelIdeal_ReferenceIdeal_pre_finite_and_binary := by
  intro m g m' g' hpre hagree
  refine ⟨fun c => Cert.KernelIdeal.Gen.W6 m g c (Proc.devRef .tc Cert.KernelIdeal.main_v110),
    (θ_run Cert.KernelIdeal.defs _ _).mono (fun r h => h.1) (Cert.KernelIdeal.Gen.runAll m g),
    (θ_run Cert.ReferenceIdeal.defs _ _).mono (fun r h c => ⟨(h c).1.trans ?_, (h c).2⟩) (Cert.ReferenceIdeal.Value.run (F := Ideal) m' g')⟩
  obtain ⟨h0, h1, h2, h3, h4, h5, h6, h7, h8, h9, h10, h11, h12, h13, h14, h15⟩ := hagree c
  refine Eq.trans ?_ (Eq.symm ((Cert.KernelIdeal.Gen.W6_v110 m g c).trans (value_eq m hpre c (launchContents m' c) h0 h1 h2 h3 h4 h5 h6 h7 h8 h9 h10 h11 h12 h13 h14 h15)))
  rfl

end

/-- Every claim stated. -/
theorem claim : Cert.Claim :=
  ⟨Cert.Kernel.Gen.facts, Cert.KernelIdeal.Gen.facts, Cert.ReferenceIdeal.Gen.facts, Cert.Recap.pre_facts,
    frame_kernel, frame_ideal, fun m ρ _ => frame_ideal m ρ trivial, frame_reference, fun m ρ _ => frame_reference m ρ trivial,
    trivial, @values Cert.Recap.pre_facts⟩

end Cert.Proof

end
